-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_Ffn_FfnIdeal : Prop :=
  IdealRules.named_const.Statement Cert.FfnIdeal.κ "gelu_c3" .f32 0x3D122279#32 (((Real.sqrt (2 * Real.pi⁻¹)) * (8943 / 200000) : ℝ) : EReal)
  ∧ IdealRules.named_const.Statement Cert.FfnIdeal.κ "gelu_c" .f32 0x3F4C422A#32 ((Real.sqrt (2 * Real.pi⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)) (v2 : (c : Dev Cert.FfnIdeal.nD) → Buf (Elt Ideal) ((c.tc : Thread Cert.FfnIdeal.nD Cert.FfnIdeal.τ).loc Cert.FfnIdeal.main_v8_2)) (v3 : (c : Dev Cert.FfnIdeal.nD) → Buf (Elt Ideal) ((c.tc : Thread Cert.FfnIdeal.nD Cert.FfnIdeal.τ).loc Cert.FfnIdeal.main_v8_3)) (v4 : (c : Dev Cert.FfnIdeal.nD) → Buf (Elt Ideal) ((c.tc : Thread Cert.FfnIdeal.nD Cert.FfnIdeal.τ).loc Cert.FfnIdeal.main_v8_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_v8_2) = v2 c
          ∧ r.2.mem ((c.tc : Thread Cert.FfnIdeal.nD Cert.FfnIdeal.τ).loc Cert.FfnIdeal.main_v8_3) = v3 c
          ∧ r.2.mem ((c.tc : Thread Cert.FfnIdeal.nD Cert.FfnIdeal.τ).loc Cert.FfnIdeal.main_v8_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v0_0) = v0 c
          ∧ r.2.mem ((c.tc : Thread Cert.FfnRefIdeal.nD Cert.FfnRefIdeal.τ).loc Cert.FfnRefIdeal.main_v0_1) = v1 c
          ∧ r.2.mem ((c.tc : Thread Cert.FfnRefIdeal.nD Cert.FfnRefIdeal.τ).loc Cert.FfnRefIdeal.main_v0_2) = v2 c
          ∧ r.2.mem ((c.tc : Thread Cert.FfnRefIdeal.nD Cert.FfnRefIdeal.τ).loc Cert.FfnRefIdeal.main_v0_3) = v3 c
          ∧ r.2.mem ((c.tc : Thread Cert.FfnRefIdeal.nD Cert.FfnRefIdeal.τ).loc Cert.FfnRefIdeal.main_v0_4) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v11_0)) (v1 : (c : Dev Cert.QkvIdeal.nD) → Buf (Elt Ideal) ((c.tc : Thread Cert.QkvIdeal.nD Cert.QkvIdeal.τ).loc Cert.QkvIdeal.main_v11_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v11_0) = v0 c
          ∧ r.2.mem ((c.tc : Thread Cert.QkvIdeal.nD Cert.QkvIdeal.τ).loc Cert.QkvIdeal.main_v11_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
-- ==== Ffn.lean ====
abbrev S48x256x1920 : Shape := ⟨3, ![48, 256, 1920]⟩
abbrev S48x6x1920 : Shape := ⟨3, ![48, 6, 1920]⟩
abbrev S48x256 : Shape := ⟨2, ![48, 256]⟩
abbrev S30x64x1920 : Shape := ⟨3, ![30, 64, 1920]⟩
abbrev S1920 : Shape := ⟨1, ![1920]⟩
abbrev S1920x7680 : Shape := ⟨2, ![1920, 7680]⟩
abbrev S7680 : Shape := ⟨1, ![7680]⟩
abbrev S7680x1920 : Shape := ⟨2, ![7680, 1920]⟩
abbrev S6x48x1920 : Shape := ⟨3, ![6, 48, 1920]⟩
abbrev S1920x1920 : Shape := ⟨2, ![1920, 1920]⟩
abbrev S1x1920 : Shape := ⟨2, ![1, 1920]⟩
abbrev S1x7680 : Shape := ⟨2, ![1, 7680]⟩
abbrev S48x256x7680 : Shape := ⟨3, ![48, 256, 7680]⟩
abbrev S1x256x1920 : Shape := ⟨3, ![1, 256, 1920]⟩
abbrev S1x256x7680 : Shape := ⟨3, ![1, 256, 7680]⟩
abbrev S256x1920 : Shape := ⟨2, ![256, 1920]⟩
abbrev S256x7680 : Shape := ⟨2, ![256, 7680]⟩
abbrev S1x1x1920 : Shape := ⟨3, ![1, 1, 1920]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S1920x512 : Shape := ⟨2, ![1920, 512]⟩
abbrev S256x512 : Shape := ⟨2, ![256, 512]⟩
abbrev S1x512 : Shape := ⟨2, ![1, 512]⟩
abbrev S1x256x512 : Shape := ⟨3, ![1, 256, 512]⟩
abbrev S1920x384 : Shape := ⟨2, ![1920, 384]⟩
abbrev S256x384 : Shape := ⟨2, ![256, 384]⟩
abbrev S1x384 : Shape := ⟨2, ![1, 384]⟩
abbrev S1x256x384 : Shape := ⟨3, ![1, 256, 384]⟩
abbrev S256 : Shape := ⟨1, ![256]⟩
abbrev S7680x512 : Shape := ⟨2, ![7680, 512]⟩
abbrev S7680x384 : Shape := ⟨2, ![7680, 384]⟩

abbrev nBuf : Space → Nat
  | .hbm => 26
  | .vmem => 25
  | .smem => 0
  | _ => 0

abbrev bufTy : (tb : Table) → Fin (tcTables nBuf tb) → BufTy
  | .hbm, ⟨0, _⟩ => ⟨S48x256x1920, .bf16⟩
  | .hbm, ⟨1, _⟩ => ⟨S48x6x1920, .f32⟩
  | .hbm, ⟨2, _⟩ => ⟨S48x256x1920, .fp8e4m3⟩
  | .hbm, ⟨3, _⟩ => ⟨S48x256, .f32⟩
  | .hbm, ⟨4, _⟩ => ⟨S30x64x1920, .fp8e4m3⟩
  | .hbm, ⟨5, _⟩ => ⟨S1920, .f32⟩
  | .hbm, ⟨6, _⟩ => ⟨S1920, .f32⟩
  | .hbm, ⟨7, _⟩ => ⟨S1920x7680, .fp8e4m3⟩
  | .hbm, ⟨8, _⟩ => ⟨S7680, .f32⟩
  | .hbm, ⟨9, _⟩ => ⟨S7680, .f32⟩
  | .hbm, ⟨10, _⟩ => ⟨S7680x1920, .fp8e4m3⟩
  | .hbm, ⟨11, _⟩ => ⟨S1920, .f32⟩
  | .hbm, ⟨12, _⟩ => ⟨S1920, .f32⟩
  | .hbm, ⟨13, _⟩ => ⟨S6x48x1920, .f32⟩
  | .hbm, ⟨14, _⟩ => ⟨S1920x1920, .fp8e4m3⟩
  | .hbm, ⟨15, _⟩ => ⟨S1x1920, .f32⟩
  | .hbm, ⟨16, _⟩ => ⟨S1x1920, .f32⟩
  | .hbm, ⟨17, _⟩ => ⟨S1x7680, .f32⟩
  | .hbm, ⟨18, _⟩ => ⟨S1x7680, .f32⟩
  | .hbm, ⟨19, _⟩ => ⟨S1x1920, .f32⟩
  | .hbm, ⟨20, _⟩ => ⟨S1x1920, .f32⟩
  | .hbm, ⟨21, _⟩ => ⟨S48x256x1920, .bf16⟩
  | .hbm, ⟨22, _⟩ => ⟨S48x256x1920, .fp8e4m3⟩
  | .hbm, ⟨23, _⟩ => ⟨S48x256, .f32⟩
  | .hbm, ⟨24, _⟩ => ⟨S48x256x7680, .fp8e4m3⟩
  | .hbm, ⟨25, _⟩ => ⟨S48x256, .f32⟩
  | .local _ .vmem, ⟨0, _⟩ => ⟨S1x256x1920, .bf16⟩
  | .local _ .vmem, ⟨1, _⟩ => ⟨S1x256x1920, .bf16⟩
  | .local _ .vmem, ⟨2, _⟩ => ⟨S6x48x1920, .f32⟩
  | .local _ .vmem, ⟨3, _⟩ => ⟨S1x256x1920, .fp8e4m3⟩
  | .local _ .vmem, ⟨4, _⟩ => ⟨S1x256x1920, .fp8e4m3⟩
  | .local _ .vmem, ⟨5, _⟩ => ⟨S48x256, .f32⟩
  | .local _ .vmem, ⟨6, _⟩ => ⟨S1920x1920, .fp8e4m3⟩
  | .local _ .vmem, ⟨7, _⟩ => ⟨S1x1920, .f32⟩
  | .local _ .vmem, ⟨8, _⟩ => ⟨S1x1920, .f32⟩
  | .local _ .vmem, ⟨9, _⟩ => ⟨S1920x7680, .fp8e4m3⟩
  | .local _ .vmem, ⟨10, _⟩ => ⟨S1x7680, .f32⟩
  | .local _ .vmem, ⟨11, _⟩ => ⟨S1x7680, .f32⟩
  | .local _ .vmem, ⟨12, _⟩ => ⟨S7680x1920, .fp8e4m3⟩
  | .local _ .vmem, ⟨13, _⟩ => ⟨S1x1920, .f32⟩
  | .local _ .vmem, ⟨14, _⟩ => ⟨S1x1920, .f32⟩
  | .local _ .vmem, ⟨15, _⟩ => ⟨S1x256x1920, .bf16⟩
  | .local _ .vmem, ⟨16, _⟩ => ⟨S1x256x1920, .bf16⟩
  | .local _ .vmem, ⟨17, _⟩ => ⟨S1x256x1920, .fp8e4m3⟩
  | .local _ .vmem, ⟨18, _⟩ => ⟨S1x256x1920, .fp8e4m3⟩
  | .local _ .vmem, ⟨19, _⟩ => ⟨S48x256, .f32⟩
  | .local _ .vmem, ⟨20, _⟩ => ⟨S1x256x7680, .fp8e4m3⟩
  | .local _ .vmem, ⟨21, _⟩ => ⟨S1x256x7680, .fp8e4m3⟩
  | .local _ .vmem, ⟨22, _⟩ => ⟨S48x256, .f32⟩
  | .local _ .vmem, ⟨23, _⟩ => ⟨S256x1920, .f32⟩
  | .local _ .vmem, ⟨24, _⟩ => ⟨S256x7680, .f32⟩
  | _, _ => ⟨S48x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem16_1 : DmaSem sig := 21
abbrev cc0_sem17_0 : DmaSem sig := 22

abbrev nD : Nat := 1
abbrev τ : Topo := Topo.v7x

variable {F : FTy → Type} [FloatOps F]

abbrev grid0 : Pipeline.Grid := ⟨1, ![48], ![false]⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def k0_off2 (i : grid0.Coords) : Fin 3 → Nat :=
  let c1 : Index := 1#32
  let arg0 : BitVec 32 := BitVec.ofNat 32 (i 0).val
  let v3 : Index := Scalar.indexCast arg0
  let c0_1 : Index := 0#32
  ![1, v3.toNat, 0]
def k0_off3 (i : grid0.Coords) : Fin 3 → Nat :=
  let c3 : Index := 3#32
  let arg0 : BitVec 32 := BitVec.ofNat 32 (i 0).val
  let v6 : Index := Scalar.indexCast arg0
  let c0_2 : Index := 0#32
  ![3, v6.toNat, 0]
def k0_off4 (i : grid0.Coords) : Fin 3 → Nat :=
  let c5 : Index := 5#32
  let arg0 : BitVec 32 := BitVec.ofNat 32 (i 0).val
  let v9 : Index := Scalar.indexCast arg0
  let c0_3 : Index := 0#32
  ![5, v9.toNat, 0]
def k0_off5 (i : grid0.Coords) : Fin 2 → Nat :=
  let arg0 : BitVec 32 := BitVec.ofNat 32 (i 0).val
  let v12 : Index := Scalar.indexCast arg0
  let c0_4 : Index := 0#32
  ![v12.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x48x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1920 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S48x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1920x1920 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1920x7680 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x7680 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x7680 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S7680x1920 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1920 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x256x1920 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1920 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S48x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x256x7680 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S48x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== FfnIdeal.lean ====
variable {F : FTy → Type} [FloatOps F] [Named F]
def κ : String → Option EReal := fun
  | "gelu_c" => some ((Real.sqrt (2 * Real.pi⁻¹) : ℝ) : EReal)
  | "gelu_c3" => some (((Real.sqrt (2 * Real.pi⁻¹)) * (8943 / 200000) : ℝ) : EReal)
  | _ => none
-- ==== FfnRefIdeal.lean ====
abbrev S48x256x1920 : Shape := ⟨3, ![48, 256, 1920]⟩
abbrev S48x6x1920 : Shape := ⟨3, ![48, 6, 1920]⟩
abbrev S48x256 : Shape := ⟨2, ![48, 256]⟩
abbrev S30x64x1920 : Shape := ⟨3, ![30, 64, 1920]⟩
abbrev S1920 : Shape := ⟨1, ![1920]⟩
abbrev S1920x7680 : Shape := ⟨2, ![1920, 7680]⟩
abbrev S7680 : Shape := ⟨1, ![7680]⟩
abbrev S7680x1920 : Shape := ⟨2, ![7680, 1920]⟩
abbrev S48x256x7680 : Shape := ⟨3, ![48, 256, 7680]⟩
abbrev S48x1x1920 : Shape := ⟨3, ![48, 1, 1920]⟩
abbrev S1920x1920 : Shape := ⟨2, ![1920, 1920]⟩
abbrev S48x256x1 : Shape := ⟨3, ![48, 256, 1]⟩
abbrev S12288x1920 : Shape := ⟨2, ![12288, 1920]⟩
abbrev S1x1x1920 : Shape := ⟨3, ![1, 1, 1920]⟩
abbrev S12288x7680 : Shape := ⟨2, ![12288, 7680]⟩
abbrev S1x1x7680 : Shape := ⟨3, ![1, 1, 7680]⟩

abbrev nBuf : Space → Nat
  | .hbm => 18
  | .vmem => 18
  | .smem => 0
  | _ => 0

abbrev bufTy : (tb : Table) → Fin (tcTables nBuf tb) → BufTy
  | .hbm, ⟨0, _⟩ => ⟨S48x256x1920, .bf16⟩
  | .hbm, ⟨1, _⟩ => ⟨S48x6x1920, .f32⟩
  | .hbm, ⟨2, _⟩ => ⟨S48x256x1920, .fp8e4m3⟩
  | .hbm, ⟨3, _⟩ => ⟨S48x256, .f32⟩
  | .hbm, ⟨4, _⟩ => ⟨S30x64x1920, .fp8e4m3⟩
  | .hbm, ⟨5, _⟩ => ⟨S1920, .f32⟩
  | .hbm, ⟨6, _⟩ => ⟨S1920, .f32⟩
  | .hbm, ⟨7, _⟩ => ⟨S1920x7680, .fp8e4m3⟩
  | .hbm, ⟨8, _⟩ => ⟨S7680, .f32⟩
  | .hbm, ⟨9, _⟩ => ⟨S7680, .f32⟩
  | .hbm, ⟨10, _⟩ => ⟨S7680x1920, .fp8e4m3⟩
  | .hbm, ⟨11, _⟩ => ⟨S1920, .f32⟩
  | .hbm, ⟨12, _⟩ => ⟨S1920, .f32⟩
  | .hbm, ⟨13, _⟩ => ⟨S48x256x1920, .bf16⟩
  | .hbm, ⟨14, _⟩ => ⟨S48x256x1920, .fp8e4m3⟩
  | .hbm, ⟨15, _⟩ => ⟨S48x256, .f32⟩
  | .hbm, ⟨16, _⟩ => ⟨S48x256x7680, .fp8e4m3⟩
  | .hbm, ⟨17, _⟩ => ⟨S48x256, .f32⟩
  | .local _ .vmem, ⟨0, _⟩ => ⟨S48x256x1920, .bf16⟩
  | .local _ .vmem, ⟨1, _⟩ => ⟨S48x6x1920, .f32⟩
  | .local _ .vmem, ⟨2, _⟩ => ⟨S48x256x1920, .fp8e4m3⟩
  | .local _ .vmem, ⟨3, _⟩ => ⟨S48x256, .f32⟩
  | .local _ .vmem, ⟨4, _⟩ => ⟨S30x64x1920, .fp8e4m3⟩
  | .local _ .vmem, ⟨5, _⟩ => ⟨S1920, .f32⟩
  | .local _ .vmem, ⟨6, _⟩ => ⟨S1920, .f32⟩
  | .local _ .vmem, ⟨7, _⟩ => ⟨S1920x7680, .fp8e4m3⟩
  | .local _ .vmem, ⟨8, _⟩ => ⟨S7680, .f32⟩
  | .local _ .vmem, ⟨9, _⟩ => ⟨S7680, .f32⟩
  | .local _ .vmem, ⟨10, _⟩ => ⟨S7680x1920, .fp8e4m3⟩
  | .local _ .vmem, ⟨11, _⟩ => ⟨S1920, .f32⟩
  | .local _ .vmem, ⟨12, _⟩ => ⟨S1920, .f32⟩
  | .local _ .vmem, ⟨13, _⟩ => ⟨S48x256x1920, .bf16⟩
  | .local _ .vmem, ⟨14, _⟩ => ⟨S48x256x1920, .fp8e4m3⟩
  | .local _ .vmem, ⟨15, _⟩ => ⟨S48x256, .f32⟩
  | .local _ .vmem, ⟨16, _⟩ => ⟨S48x256x7680, .fp8e4m3⟩
  | .local _ .vmem, ⟨17, _⟩ => ⟨S48x256, .f32⟩
  | _, _ => ⟨S48x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F] [Named F]

def κ : String → Option EReal := fun
  | "gelu_cubic" => some ((8943 / 200000 : ℝ) : EReal)
  | "sqrt_2_over_pi" => some ((Real.sqrt (2 * Real.pi⁻¹) : ℝ) : EReal)
  | _ => none

abbrev grid0 : Pipeline.Grid := .none

abbrev stage0_0 : Fin 1 → Memref sig .tc .vmem S48x256x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x6x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x256x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S30x64x1920 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x7680 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x1920 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1920 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S48x256x1920 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S48x256x1920 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S48x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S48x256x7680 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S48x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Qkv.lean ====
abbrev S48x256x1920 : Shape := ⟨3, ![48, 256, 1920]⟩
abbrev S48x6x1920 : Shape := ⟨3, ![48, 6, 1920]⟩
abbrev S1920x5760 : Shape := ⟨2, ![1920, 5760]⟩
abbrev S5760 : Shape := ⟨1, ![5760]⟩
abbrev S1920 : Shape := ⟨1, ![1920]⟩
abbrev S30 : Shape := ⟨1, ![30]⟩
abbrev S6x48x1920 : Shape := ⟨3, ![6, 48, 1920]⟩
abbrev S_ : Shape := ⟨0, ![]⟩
abbrev S5760x1920 : Shape := ⟨2, ![5760, 1920]⟩
abbrev S5760x1 : Shape := ⟨2, ![5760, 1]⟩
abbrev S5760x128 : Shape := ⟨2, ![5760, 128]⟩
abbrev S48x256 : Shape := ⟨2, ![48, 256]⟩
abbrev S48x30x64x256 : Shape := ⟨4, ![48, 30, 64, 256]⟩
abbrev S48x30x32x256 : Shape := ⟨4, ![48, 30, 32, 256]⟩
abbrev S48x30x2x256 : Shape := ⟨4, ![48, 30, 2, 256]⟩
abbrev S1x256x1920 : Shape := ⟨3, ![1, 256, 1920]⟩
abbrev S1x30x64x256 : Shape := ⟨4, ![1, 30, 64, 256]⟩
abbrev S1x30x32x256 : Shape := ⟨4, ![1, 30, 32, 256]⟩
abbrev S1x30x2x256 : Shape := ⟨4, ![1, 30, 2, 256]⟩
abbrev S1x1x1920 : Shape := ⟨3, ![1, 1, 1920]⟩
abbrev S1x1920 : Shape := ⟨2, ![1, 1920]⟩
abbrev S256x1920 : Shape := ⟨2, ![256, 1920]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S384x1920 : Shape := ⟨2, ![384, 1920]⟩
abbrev S384x256 : Shape := ⟨2, ![384, 256]⟩
abbrev S64x128 : Shape := ⟨2, ![64, 128]⟩
abbrev S64x256 : Shape := ⟨2, ![64, 256]⟩
abbrev S1 : Shape := ⟨1, ![1]⟩
abbrev S1x1x64x256 : Shape := ⟨4, ![1, 1, 64, 256]⟩
abbrev S32x256 : Shape := ⟨2, ![32, 256]⟩
abbrev S1x1x1x256 : Shape := ⟨4, ![1, 1, 1, 256]⟩
abbrev S1x1x32x256 : Shape := ⟨4, ![1, 1, 32, 256]⟩

abbrev nBuf : Space → Nat
  | .hbm => 26
  | .vmem => 17
  | .smem => 1
  | _ => 0

abbrev bufTy : (tb : Table) → Fin (tcTables nBuf tb) → BufTy
  | .hbm, ⟨0, _⟩ => ⟨S48x256x1920, .bf16⟩
  | .hbm, ⟨1, _⟩ => ⟨S48x6x1920, .f32⟩
  | .hbm, ⟨2, _⟩ => ⟨S1920x5760, .fp8e4m3⟩
  | .hbm, ⟨3, _⟩ => ⟨S5760, .f32⟩
  | .hbm, ⟨4, _⟩ => ⟨S1920, .f32⟩
  | .hbm, ⟨5, _⟩ => ⟨S1920, .f32⟩
  | .hbm, ⟨6, _⟩ => ⟨S30, .f32⟩
  | .hbm, ⟨7, _⟩ => ⟨S6x48x1920, .f32⟩
  | .hbm, ⟨8, _⟩ => ⟨S_, .f32⟩
  | .hbm, ⟨9, _⟩ => ⟨S1920, .f32⟩
  | .hbm, ⟨10, _⟩ => ⟨S5760, .f32⟩
  | .hbm, ⟨11, _⟩ => ⟨S_, .f32⟩
  | .hbm, ⟨12, _⟩ => ⟨S30, .f32⟩
  | .hbm, ⟨13, _⟩ => ⟨S30, .f32⟩
  | .hbm, ⟨14, _⟩ => ⟨S30, .f32⟩
  | .hbm, ⟨15, _⟩ => ⟨S5760x1920, .fp8e4m3⟩
  | .hbm, ⟨16, _⟩ => ⟨S5760x1, .f32⟩
  | .hbm, ⟨17, _⟩ => ⟨S5760x128, .f32⟩
  | .hbm, ⟨18, _⟩ => ⟨S5760x1, .f32⟩
  | .hbm, ⟨19, _⟩ => ⟨S5760x128, .f32⟩
  | .hbm, ⟨20, _⟩ => ⟨S48x256x1920, .fp8e4m3⟩
  | .hbm, ⟨21, _⟩ => ⟨S48x256, .f32⟩
  | .hbm, ⟨22, _⟩ => ⟨S48x30x64x256, .bf16⟩
  | .hbm, ⟨23, _⟩ => ⟨S48x30x64x256, .i8⟩
  | .hbm, ⟨24, _⟩ => ⟨S48x30x32x256, .i8⟩
  | .hbm, ⟨25, _⟩ => ⟨S48x30x2x256, .f32⟩
  | .local _ .vmem, ⟨0, _⟩ => ⟨S1x256x1920, .bf16⟩
  | .local _ .vmem, ⟨1, _⟩ => ⟨S1x256x1920, .bf16⟩
  | .local _ .vmem, ⟨2, _⟩ => ⟨S6x48x1920, .f32⟩
  | .local _ .vmem, ⟨3, _⟩ => ⟨S5760x1920, .fp8e4m3⟩
  | .local _ .vmem, ⟨4, _⟩ => ⟨S5760x128, .f32⟩
  | .local _ .vmem, ⟨5, _⟩ => ⟨S5760x128, .f32⟩
  | .local _ .vmem, ⟨6, _⟩ => ⟨S1x256x1920, .fp8e4m3⟩
  | .local _ .vmem, ⟨7, _⟩ => ⟨S1x256x1920, .fp8e4m3⟩
  | .local _ .vmem, ⟨8, _⟩ => ⟨S48x256, .f32⟩
  | .local _ .vmem, ⟨9, _⟩ => ⟨S1x30x64x256, .bf16⟩
  | .local _ .vmem, ⟨10, _⟩ => ⟨S1x30x64x256, .bf16⟩
  | .local _ .vmem, ⟨11, _⟩ => ⟨S1x30x64x256, .i8⟩
  | .local _ .vmem, ⟨12, _⟩ => ⟨S1x30x64x256, .i8⟩
  | .local _ .vmem, ⟨13, _⟩ => ⟨S1x30x32x256, .i8⟩
  | .local _ .vmem, ⟨14, _⟩ => ⟨S1x30x32x256, .i8⟩
  | .local _ .vmem, ⟨15, _⟩ => ⟨S1x30x2x256, .f32⟩
  | .local _ .vmem, ⟨16, _⟩ => ⟨S1x30x2x256, .f32⟩
  | .local _ .smem, ⟨0, _⟩ => ⟨S30, .f32⟩
  | _, _ => ⟨S48x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![48], ![false]⟩

def k0_off1 (i : grid0.Coords) : Fin 3 → Nat :=
  let c2 : Index := 2#32
  let arg0 : BitVec 32 := BitVec.ofNat 32 (i 0).val
  let v0 : Index := Scalar.indexCast arg0
  let c0 : Index := 0#32
  ![2, v0.toNat, 0]
def k0_off2 (i : grid0.Coords) : Fin 3 → Nat :=
  let c4 : Index := 4#32
  let arg0 : BitVec 32 := BitVec.ofNat 32 (i 0).val
  let v3 : Index := Scalar.indexCast arg0
  let c0_0 : Index := 0#32
  ![4, v3.toNat, 0]
def k0_off3 (i : grid0.Coords) : Fin 2 → Nat :=
  let arg0 : BitVec 32 := BitVec.ofNat 32 (i 0).val
  let v58 : Index := Scalar.indexCast arg0
  let c0_20 : Index := 0#32
  ![v58.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x48x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5760x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5760x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5760x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S30 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1920 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S48x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x30x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x30x64x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x30x32x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x30x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S48x256x1920 : Shape := ⟨3, ![48, 256, 1920]⟩
abbrev S48x6x1920 : Shape := ⟨3, ![48, 6, 1920]⟩
abbrev S1920x5760 : Shape := ⟨2, ![1920, 5760]⟩
abbrev S5760 : Shape := ⟨1, ![5760]⟩
abbrev S1920 : Shape := ⟨1, ![1920]⟩
abbrev S30 : Shape := ⟨1, ![30]⟩
abbrev S48x256 : Shape := ⟨2, ![48, 256]⟩
abbrev S48x1x1920 : Shape := ⟨3, ![48, 1, 1920]⟩
abbrev S48x256x1 : Shape := ⟨3, ![48, 256, 1]⟩

abbrev nBuf : Space → Nat
  | .hbm => 9
  | .vmem => 4
  | .smem => 0
  | _ => 0

abbrev bufTy : (tb : Table) → Fin (tcTables nBuf tb) → BufTy
  | .hbm, ⟨0, _⟩ => ⟨S48x256x1920, .bf16⟩
  | .hbm, ⟨1, _⟩ => ⟨S48x6x1920, .f32⟩
  | .hbm, ⟨2, _⟩ => ⟨S1920x5760, .fp8e4m3⟩
  | .hbm, ⟨3, _⟩ => ⟨S5760, .f32⟩
  | .hbm, ⟨4, _⟩ => ⟨S1920, .f32⟩
  | .hbm, ⟨5, _⟩ => ⟨S1920, .f32⟩
  | .hbm, ⟨6, _⟩ => ⟨S30, .f32⟩
  | .hbm, ⟨7, _⟩ => ⟨S48x256x1920, .fp8e4m3⟩
  | .hbm, ⟨8, _⟩ => ⟨S48x256, .f32⟩
  | .local _ .vmem, ⟨0, _⟩ => ⟨S48x256x1920, .bf16⟩
  | .local _ .vmem, ⟨1, _⟩ => ⟨S48x6x1920, .f32⟩
  | .local _ .vmem, ⟨2, _⟩ => ⟨S48x256x1920, .fp8e4m3⟩
  | .local _ .vmem, ⟨3, _⟩ => ⟨S48x256, .f32⟩
  | _, _ => ⟨S48x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S48x256x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x6x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x256x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.FfnBitsRun.lean ====
/- The body of the kernel as printed (its float constants as literals), run once at one grid point. -/
module

public import proofs.«01_k».proof.Proof.Gen.Ffn.Frame
public import proofs.«01_k».proof.Proof.Gen.Ffn.Skeleton

@[expose] public section

-- membership in a rectangle of production extents (`View.cover_of_tiled`): the elaborator's structural look
-- recurses once per coordinate of the long axes
set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging buffer and in the two scratch buffers, as pieces (last
    first), with the proof that the body, on the inputs' contents and any others, ends with exactly these pieces
    written. The two row outputs (`s2`, `hs`) keep what they held outside their pieces. -/
noncomputable def ffnRun (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S1x256x1920 .fp8e4m3) (harg3 : arg3.IsWhole) (arg4 : Memref sig .tc .vmem S48x256 .f32) (harg4 : arg4.IsWhole) (arg5 : Memref sig .tc .vmem S1920x1920 .fp8e4m3) (harg5 : arg5.IsWhole) (arg6 : Memref sig .tc .vmem S1x1920 .f32) (harg6 : arg6.IsWhole) (arg7 : Memref sig .tc .vmem S1x1920 .f32) (harg7 : arg7.IsWhole) (arg8 : Memref sig .tc .vmem S1920x7680 .fp8e4m3) (harg8 : arg8.IsWhole) (arg9 : Memref sig .tc .vmem S1x7680 .f32) (harg9 : arg9.IsWhole) (arg10 : Memref sig .tc .vmem S1x7680 .f32) (harg10 : arg10.IsWhole) (arg11 : Memref sig .tc .vmem S7680x1920 .fp8e4m3) (harg11 : arg11.IsWhole) (arg12 : Memref sig .tc .vmem S1x1920 .f32) (harg12 : arg12.IsWhole) (arg13 : Memref sig .tc .vmem S1x1920 .f32) (harg13 : arg13.IsWhole) (arg14 : Memref sig .tc .vmem S1x256x1920 .bf16) (harg14 : arg14.IsWhole) (arg15 : Memref sig .tc .vmem S1x256x1920 .fp8e4m3) (harg15 : arg15.IsWhole) (arg16 : Memref sig .tc .vmem S48x256 .f32) (harg16 : arg16.IsWhole) (arg17 : Memref sig .tc .vmem S1x256x7680 .fp8e4m3) (harg17 : arg17.IsWhole) (arg18 : Memref sig .tc .vmem S48x256 .f32) (harg18 : arg18.IsWhole) (arg19 : Memref sig .tc .vmem S256x1920 .f32) (harg19 : arg19.IsWhole) (arg20 : Memref sig .tc .vmem S256x7680 .f32) (harg20 : arg20.IsWhole)
    (x0 : Vec F S1x256x1920 .bf16) (x1 : Vec F S6x48x1920 .f32) (x2 : Vec F S1x256x1920 .fp8e4m3) (x3 : Vec F S48x256 .f32) (x4 : Vec F S1920x1920 .fp8e4m3) (x5 : Vec F S1x1920 .f32) (x6 : Vec F S1x1920 .f32) (x7 : Vec F S1920x7680 .fp8e4m3) (x8 : Vec F S1x7680 .f32) (x9 : Vec F S1x7680 .f32) (x10 : Vec F S7680x1920 .fp8e4m3) (x11 : Vec F S1x1920 .f32) (x12 : Vec F S1x1920 .f32) :
    Σ' (L13 : List (View.Piece (Elt F) S1x256x1920 .bf16)), Σ' (L14 : List (View.Piece (Elt F) S1x256x1920 .fp8e4m3)), Σ' (L15 : List (View.Piece (Elt F) S48x256 .f32)), Σ' (L16 : List (View.Piece (Elt F) S1x256x7680 .fp8e4m3)), Σ' (L17 : List (View.Piece (Elt F) S48x256 .f32)), Σ' (LT0 : List (View.Piece (Elt F) S256x1920 .f32)), { LT1 : List (View.Piece (Elt F) S256x7680 .f32) //
      ∀ (E : Set ℕ) (x15 x17 : Vec F S48x256 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare x15 ∗ (∃ d, owns (c : Thread nD τ) arg17 fullShare d) ∗ owns (c : Thread nD τ) arg18 fullShare x17 ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (arg16.view.loc (c : Thread nD τ) ↦[arg16.view.set]{fullShare} arg16.view.writes (Elt F) (harg16.unread x15) L15) ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread x17) L17) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E x15 x17 K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%d16, %f16, -, H16⟩, ⟨%f17, %hf17, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexact H15
    isplitl [H16]; · iexists _; iexact H16
    isplitl [H17]; · iexact H17
    isplitl [HS0]; · iexists _; iexact HS0
    iexists _; iexact HS1

end Cert.Ffn.Hand

end
-- ==== Proof.FfnBitsBody.lean ====
/- The proof data, the launch and the frame of the kernel as printed. -/
module

public import proofs.«01_k».proof.Proof.FfnBitsRun
public import Idealize.ShloMosaic.Lib.Claim
public import Idealize.ShloMosaic.Lib.Pipeline.DatRel
public import Idealize.ShloMosaic.Lib.Pointwise

@[expose] public section

-- membership in a rectangle of production extents (`View.cover_of_tiled`): the elaborator's structural look
-- recurses once per coordinate of the long axes
set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 13, through which its contents are stated (`View.read_writes_of_cover`: the
    choice does not matter). -/
abbrev VO0_13 : View sig .tc .vmem S1x256x1920 .bf16 := (Memref.whole cc0_stg13_0 : Memref sig .tc .vmem S1x256x1920 .bf16).view
/-- One staging buffer of output window 14, through which its contents are stated (`View.read_writes_of_cover`: the
    choice does not matter). -/
abbrev VO0_14 : View sig .tc .vmem S1x256x1920 .fp8e4m3 := (Memref.whole cc0_stg14_0 : Memref sig .tc .vmem S1x256x1920 .fp8e4m3).view
/-- One staging buffer of output window 15, through which its contents are stated (`View.read_writes_of_cover`: the
    choice does not matter). -/
abbrev VO0_15 : View sig .tc .vmem S48x256 .f32 := (Memref.whole cc0_stg15_0 : Memref sig .tc .vmem S48x256 .f32).view
/-- One staging buffer of output window 16, through which its contents are stated (`View.read_writes_of_cover`: the
    choice does not matter). -/
abbrev VO0_16 : View sig .tc .vmem S1x256x7680 .fp8e4m3 := (Memref.whole cc0_stg16_0 : Memref sig .tc .vmem S1x256x7680 .fp8e4m3).view
/-- One staging buffer of output window 17, through which its contents are stated (`View.read_writes_of_cover`: the
    choice does not matter). -/
abbrev VO0_17 : View sig .tc .vmem S48x256 .f32 := (Memref.whole cc0_stg17_0 : Memref sig .tc .vmem S48x256 .f32).view
/-- Each window's current staging memref at point `t`, spelled as the pipeline passes it (`bodyAt0`), and its wholeness. -/
abbrev ms0_0 (t : Fin cfg0.N) : Memref sig .tc .vmem S1x256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1920x1920 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1920 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1920 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1920x7680 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x7680 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x7680 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S7680x1920 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1920 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1920 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1920 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x1920 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S48x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256x7680 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S48x256 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S256x1920 .f32 := Memref.whole cc0_scratch0
abbrev scM0_1 : Memref sig .tc .vmem S256x7680 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The one grid coordinate of point `t` is `t`. -/
theorem coord_val : ∀ t : Fin cfg0.N, (grid0.coords t 0).val = t.val := (by decide +kernel : ∀ t : Fin grid0.N, _)

section
variable {κ : Kind} {sp : Space} (v : View sig κ sp S48x256 .f32) (f : v.ty.Contents (Elt F)) {L : List (View.Piece (Elt F) S48x256 .f32)} {o : ℕ}
  (h : ∃ (off : Fin 2 → ℕ) (inb : ∀ a, off a + S1x256.size a ≤ S48x256.size a) (p : S1x256.Idx → Elt F .f32),
    off = ![o, 0] ∧ L = [⟨Rect.unit (s := S48x256) off S1x256.size inb, p⟩]) (y : S48x256.Idx)
include h
/-- In the stored row a buffer holds the store's value, whatever it held before. -/
theorem row_hit (hy : (y 0).val = o) {κ' : Kind} {sp' : Space} (v' : View sig κ' sp' S48x256 .f32) (f' : v'.ty.Contents (Elt F)) :
    v.read (Elt F) (v.writes (Elt F) f L) y = v'.read (Elt F) (v'.writes (Elt F) f' L) y := by
  obtain ⟨off, inb, p, rfl, rfl⟩ := h
  have hx : ∀ a, (y a).val = (Rect.unit (s := S48x256) ![o, 0] S1x256.size inb).off a
      + (Rect.unit (s := S48x256) ![o, 0] S1x256.size inb).stride a * ((ix2 0 (y 1) : S1x256.Idx) a).val := by
    intro a; fin_cases a
    · show (y 0).val = o + 1 * 0; omega
    · show (y 1).val = 0 + 1 * (y 1).val; omega
  exact (View.read_writes_cons_hit_of_coords v f (Rect.unit (s := S48x256) ![o, 0] S1x256.size inb) p [] (ix2 0 (y 1) : S1x256.Idx) y hx).trans
    (View.read_writes_cons_hit_of_coords v' f' (Rect.unit (s := S48x256) ![o, 0] S1x256.size inb) p [] (ix2 0 (y 1) : S1x256.Idx) y hx).symm

/-- In every other row it keeps what it held. -/
theorem row_miss (hy : (y 0).val ≠ o) : v.read (Elt F) (v.writes (Elt F) f L) y = v.read (Elt F) f y := by
  obtain ⟨off, inb, p, rfl, rfl⟩ := h
  rw [View.read_writes_cons_miss_of_axis v f _ [] y 0 o 1 rfl rfl rfl (by omega)]; rfl
end

/-- The body's run at grid point `t`: at the point's staging buffers and the inputs' blocks. -/
noncomputable def ptRun (c : Dev nD) (t : Fin cfg0.N) := ffnRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The stores of output 0 cover its block. -/
theorem cover13 (c : Dev nD) (t : Fin cfg0.N) (y : S1x256x1920.Idx) : ∃ pc ∈ (ptRun m c t).1, y ∈ pc.1.set :=
  View.cover_of_tiledBy (ptRun m c t).1 ![1, 256, 128] (by sl_kernel_rfl) y

/-- What the run at point `t` leaves in output 0's block, read over junk. -/
noncomputable def out13 (c : Dev nD) (t : Fin cfg0.N) : Vec F S1x256x1920 .bf16 := VO0_13.read (Elt F) (VO0_13.writes (Elt F) VO0_13.junk (ptRun m c t).1)

/-- The stores of output 1 cover its block. -/
theorem cover14 (c : Dev nD) (t : Fin cfg0.N) (y : S1x256x1920.Idx) : ∃ pc ∈ (ptRun m c t).2.1, y ∈ pc.1.set :=
  View.cover_of_tiledL (ptRun m c t).2.1 S1x256x1920.size (by sl_kernel_rfl) y

/-- What the run at point `t` leaves in output 1's block, read over junk. -/
noncomputable def out14 (c : Dev nD) (t : Fin cfg0.N) : Vec F S1x256x1920 .fp8e4m3 := VO0_14.read (Elt F) (VO0_14.writes (Elt F) VO0_14.junk (ptRun m c t).2.1)

/-- The only store of output 2 at point `t` is the row `t` of its block. -/
theorem row15 (c : Dev nD) (t : Fin cfg0.N) : ∃ (off : Fin 2 → ℕ) (inb : ∀ a, off a + S1x256.size a ≤ S48x256.size a) (p : S1x256.Idx → Elt F .f32),
    off = ![t.val, 0] ∧ (ptRun m c t).2.2.1 = [⟨Rect.unit (s := S48x256) off S1x256.size inb, p⟩] :=
  ⟨k0_off5 (grid0.coords t), k0_off5_inb _, _, by rw [k0_off5_eq, coord_val], rfl⟩

/-- What the run at point `t` leaves in output 2's block, read over junk. -/
noncomputable def out15 (c : Dev nD) (t : Fin cfg0.N) : Vec F S48x256 .f32 := VO0_15.read (Elt F) (VO0_15.writes (Elt F) VO0_15.junk (ptRun m c t).2.2.1)

/-- The stores of output 3 cover its block. -/
theorem cover16 (c : Dev nD) (t : Fin cfg0.N) (y : S1x256x7680.Idx) : ∃ pc ∈ (ptRun m c t).2.2.2.1, y ∈ pc.1.set :=
  View.cover_of_tiledL (ptRun m c t).2.2.2.1 S1x256x7680.size (by sl_kernel_rfl) y

/-- What the run at point `t` leaves in output 3's block, read over junk. -/
noncomputable def out16 (c : Dev nD) (t : Fin cfg0.N) : Vec F S1x256x7680 .fp8e4m3 := VO0_16.read (Elt F) (VO0_16.writes (Elt F) VO0_16.junk (ptRun m c t).2.2.2.1)

/-- The only store of output 4 at point `t` is the row `t` of its block. -/
theorem row17 (c : Dev nD) (t : Fin cfg0.N) : ∃ (off : Fin 2 → ℕ) (inb : ∀ a, off a + S1x256.size a ≤ S48x256.size a) (p : S1x256.Idx → Elt F .f32),
    off = ![t.val, 0] ∧ (ptRun m c t).2.2.2.2.1 = [⟨Rect.unit (s := S48x256) off S1x256.size inb, p⟩] :=
  ⟨k0_off5 (grid0.coords t), k0_off5_inb _, _, by rw [k0_off5_eq, coord_val], rfl⟩

/-- What the run at point `t` leaves in output 4's block, read over junk. -/
noncomputable def out17 (c : Dev nD) (t : Fin cfg0.N) : Vec F S48x256 .f32 := VO0_17.read (Elt F) (VO0_17.writes (Elt F) VO0_17.junk (ptRun m c t).2.2.2.2.1)

/-- The two windows whose buffers are filled row by row. -/
def rows : Fin cfg0.W → Bool := fun w => decide (w.val = 15) || decide (w.val = 17)

/-- The proof data: each input's buffer at its block, each blocked output's at what the run leaves. The row outputs'
    buffers are held to `Rel` below instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 m c t
    | ⟨14, _⟩ => out14 m c t
    | ⟨15, _⟩ => out15 m c t
    | ⟨16, _⟩ => out16 m c t
    | ⟨17, _⟩ => out17 m c t
    | ⟨_ + 18, h⟩ => absurd h (Nat.not_lt.2 (Nat.le_add_left _ _))
  Φ _ := Pipeline.ΦA spec0 c
  q _ := fullShare
  owed _ := 0

/-- What a row output's buffer holds after point `t`: in each row up to `t`, what that row's point stored. -/
def Rel (c : Dev nD) (w : Fin cfg0.W) (t : Fin cfg0.N) : ((cfg0.win w).block.Idx → Elt F (cfg0.win w).elt) → Prop :=
  match w with
  | ⟨15, _⟩ => fun X => ∀ (r : Fin cfg0.N) (y : S48x256.Idx), r ≤ t → (y 0).val = r.val → X y = out15 m c r y
  | ⟨17, _⟩ => fun X => ∀ (r : Fin cfg0.N) (y : S48x256.Idx), r ≤ t → (y 0).val = r.val → X y = out17 m c r y
  | _ => fun _ => True

/-- The relational proof data. -/
def rdat (c : Dev nD) := (dats m 0 c).toRRel rows (Rel m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out13 m c t := by dsimp only [dats]
theorem after0_14 (c : Dev nD) (t : Fin cfg0.N) : (dats m 0 c).after 14 t = out14 m c t := by dsimp only [dats]
theorem after0_15 (c : Dev nD) (t : Fin cfg0.N) : (dats m 0 c).after 15 t = out15 m c t := by dsimp only [dats]
theorem after0_16 (c : Dev nD) (t : Fin cfg0.N) : (dats m 0 c).after 16 t = out16 m c t := by dsimp only [dats]
theorem after0_17 (c : Dev nD) (t : Fin cfg0.N) : (dats m 0 c).after 17 t = out17 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body may find in row output 2's buffer: the rows of the points before. -/
theorem found15 (c : Dev nD) (t : Fin cfg0.N) (Y) (h : (rdat m c).Finds 15 t Y) (r : Fin cfg0.N) (y : S48x256.Idx) (hr : r < t)
    (hy : (y 0).val = r.val) : Y y = out15 m c r y := by
  have hN : cfg0.N = 48 := N_0
  have ht : t.val ≠ 0 := by have := hr; rw [Fin.lt_def] at this; omega
  rcases ((rdat m c).finds_of_pos (w := 15) rfl ht Y).mp h with hf | hl
  · exact absurd ((flush0_15 _).mp hf) (by have := t.isLt; show ¬ ((t.val - 1) % 48 = 47); omega)
  · have hR : Rel m c 15 _ Y := (dats m 0 c).toRRel_leaves (by rfl) hl
    exact hR r y (by rw [Fin.lt_def] at hr; show r.val ≤ t.val - 1; omega) hy

/-- With its row stored, row output 2's buffer holds the rows up to `t`. -/
theorem left15 (c : Dev nD) (t : Fin cfg0.N) (Y) (h : (rdat m c).Finds 15 t Y) :
    Rel m c 15 t ((ms0_15 t).view.read (Elt F) ((ms0_15 t).view.writes (Elt F) ((hs0_15 t).unread Y) (ptRun m c t).2.2.1)) := by
  intro r y hr hy
  by_cases e : r = t
  · subst e; exact row_hit _ _ (row15 m c r) y hy _ _
  · rw [row_miss _ _ (row15 m c t) y (by rw [hy]; exact fun h => e (Fin.ext h)), (hs0_15 t).read_unread]
    exact found15 m c t Y h r y (lt_of_le_of_ne hr e) hy

/-- What the body may find in row output 4's buffer: the rows of the points before. -/
theorem found17 (c : Dev nD) (t : Fin cfg0.N) (Y) (h : (rdat m c).Finds 17 t Y) (r : Fin cfg0.N) (y : S48x256.Idx) (hr : r < t)
    (hy : (y 0).val = r.val) : Y y = out17 m c r y := by
  have hN : cfg0.N = 48 := N_0
  have ht : t.val ≠ 0 := by have := hr; rw [Fin.lt_def] at this; omega
  rcases ((rdat m c).finds_of_pos (w := 17) rfl ht Y).mp h with hf | hl
  · exact absurd ((flush0_17 _).mp hf) (by have := t.isLt; show ¬ ((t.val - 1) % 48 = 47); omega)
  · have hR : Rel m c 17 _ Y := (dats m 0 c).toRRel_leaves (by rfl) hl
    exact hR r y (by rw [Fin.lt_def] at hr; show r.val ≤ t.val - 1; omega) hy

/-- With its row stored, row output 4's buffer holds the rows up to `t`. -/
theorem left17 (c : Dev nD) (t : Fin cfg0.N) (Y) (h : (rdat m c).Finds 17 t Y) :
    Rel m c 17 t ((ms0_17 t).view.read (Elt F) ((ms0_17 t).view.writes (Elt F) ((hs0_17 t).unread Y) (ptRun m c t).2.2.2.2.1)) := by
  intro r y hr hy
  by_cases e : r = t
  · subst e; exact row_hit _ _ (row17 m c r) y hy _ _
  · rw [row_miss _ _ (row17 m c t) y (by rw [hy]; exact fun h => e (Fin.ext h)), (hs0_17 t).read_unread]
    exact found17 m c t Y h r y (lt_of_le_of_ne hr e) hy

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ Y, ⌜(rdat m c).Finds 15 t Y⌝ ∗ owns (c : Thread nD τ) (ms0_15 t) fullShare Y)
    ∗ (∃ d, owns (c : Thread nD τ) (ms0_16 t) fullShare ((dats m 0 c).before 16 t d))
    ∗ (∃ Y, ⌜(rdat m c).Finds 17 t Y⌝ ∗ owns (c : Thread nD τ) (ms0_17 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ X, ⌜Rel m c 15 t X⌝ ∗ owns (c : Thread nD τ) (ms0_15 t) fullShare X)
    ∗ owns (c : Thread nD τ) (ms0_16 t) fullShare ((dats m 0 c).after 16 t)
    ∗ (∃ X, ⌜Rel m c 17 t X⌝ ∗ owns (c : Thread nD τ) (ms0_17 t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_16]
  rw [show (dats m 0 c).Φ t.castSucc = Pipeline.ΦA spec0 c from rfl, PhiA0_eq]
  unfold out13 out14 out16
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%Y15, %hY15, H15⟩, ⟨%d16, H16⟩, ⟨%Y17, %hY17, H17⟩⟩
  iapply ((ptRun m c t).2.2.2.2.2.2.2 Set.univ Y15 Y17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexact H15
  isplitl [H16]; · iexists _; iexact H16
  isplitl [H17]; · iexact H17
  isplitl [HS0]; · iexact HS0
  isplitl [HS1]; · iexact HS1
  iintro ⟨H0, H1, H2, H3, H4, H5, H6, H7, H8, H9, H10, H11, H12, ⟨%e13, H13⟩, ⟨%e14, H14⟩, H15, ⟨%e16, H16⟩, H17, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 m c t)
  isplitl [H14]
  · unfold owns; iexists _; isplitr
    swap; · iexact H14
    ipureintro; exact View.read_writes_of_cover _ _ _ _ _ (cover14 m c t)
  isplitl [H15]
  · iexists _; isplitr
    swap
    · unfold owns; iexists _; isplitr
      swap; · iexact H15
      ipureintro; rfl
    ipureintro; exact left15 m c t Y15 hY15
  isplitl [H16]
  · unfold owns; iexists _; isplitr
    swap; · iexact H16
    ipureintro; exact View.read_writes_of_cover _ _ _ _ _ (cover16 m c t)
  iexists _; isplitr
  swap
  · unfold owns; iexists _; isplitr
    swap; · iexact H17
    ipureintro; rfl
  ipureintro; exact left17 m c t Y17 hY17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : Pipeline.BodyObligationRel (dats (F := F) m 0 c) (defs₀ (F := F)) Variants.none () Set.univ rows (Rel m c) := fun t => by
  rw [bigSep_W0, bigSep_W0, defs₀_row]
  exact triple_restated (sound_body m c t) rfl .rfl fun _ => .rfl

set_option backward.isDefEq.respectTransparency.types false in
/-- The launch: what every final state's arrays hold, and every semaphore counter at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := fun c w => A_eq m c w) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r (h : Pipeline.RDat.FramePost (cfgs 0) (rdat m) (V m) r) c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((A_eq m c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 10 rfl).trans ((A_eq m c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) ((θ_run defs _ _).mono (fun _ h => h.1) (run_main m ρ))

/-- The frame claim: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main m ρ))

end Cert.Ffn.Hand

end
-- ==== Proof.FfnRun.lean ====
/- The kernel's body at one grid point, run once: the pieces that its stores leave are found by the run. -/
module

public import proofs.«01_k».proof.Proof.Gen.FfnIdeal.Frame
public import proofs.«01_k».proof.Proof.Gen.FfnIdeal.Skeleton

@[expose] public section

-- membership in a rectangle of production extents (`View.cover_of_tiled`): the elaborator's structural look
-- recurses once per coordinate of the long axes
set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in each output's staging buffer and in the two scratch buffers, as pieces (last
    first), with the proof that the body, on the inputs' contents and any others, ends with exactly these pieces
    written. The two row outputs (`s2`, `hs`) keep what they held outside their pieces. -/
noncomputable def ffnRun (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S1x256x1920 .fp8e4m3) (harg3 : arg3.IsWhole) (arg4 : Memref sig .tc .vmem S48x256 .f32) (harg4 : arg4.IsWhole) (arg5 : Memref sig .tc .vmem S1920x1920 .fp8e4m3) (harg5 : arg5.IsWhole) (arg6 : Memref sig .tc .vmem S1x1920 .f32) (harg6 : arg6.IsWhole) (arg7 : Memref sig .tc .vmem S1x1920 .f32) (harg7 : arg7.IsWhole) (arg8 : Memref sig .tc .vmem S1920x7680 .fp8e4m3) (harg8 : arg8.IsWhole) (arg9 : Memref sig .tc .vmem S1x7680 .f32) (harg9 : arg9.IsWhole) (arg10 : Memref sig .tc .vmem S1x7680 .f32) (harg10 : arg10.IsWhole) (arg11 : Memref sig .tc .vmem S7680x1920 .fp8e4m3) (harg11 : arg11.IsWhole) (arg12 : Memref sig .tc .vmem S1x1920 .f32) (harg12 : arg12.IsWhole) (arg13 : Memref sig .tc .vmem S1x1920 .f32) (harg13 : arg13.IsWhole) (arg14 : Memref sig .tc .vmem S1x256x1920 .bf16) (harg14 : arg14.IsWhole) (arg15 : Memref sig .tc .vmem S1x256x1920 .fp8e4m3) (harg15 : arg15.IsWhole) (arg16 : Memref sig .tc .vmem S48x256 .f32) (harg16 : arg16.IsWhole) (arg17 : Memref sig .tc .vmem S1x256x7680 .fp8e4m3) (harg17 : arg17.IsWhole) (arg18 : Memref sig .tc .vmem S48x256 .f32) (harg18 : arg18.IsWhole) (arg19 : Memref sig .tc .vmem S256x1920 .f32) (harg19 : arg19.IsWhole) (arg20 : Memref sig .tc .vmem S256x7680 .f32) (harg20 : arg20.IsWhole)
    (x0 : Vec F S1x256x1920 .bf16) (x1 : Vec F S6x48x1920 .f32) (x2 : Vec F S1x256x1920 .fp8e4m3) (x3 : Vec F S48x256 .f32) (x4 : Vec F S1920x1920 .fp8e4m3) (x5 : Vec F S1x1920 .f32) (x6 : Vec F S1x1920 .f32) (x7 : Vec F S1920x7680 .fp8e4m3) (x8 : Vec F S1x7680 .f32) (x9 : Vec F S1x7680 .f32) (x10 : Vec F S7680x1920 .fp8e4m3) (x11 : Vec F S1x1920 .f32) (x12 : Vec F S1x1920 .f32) :
    Σ' (L13 : List (View.Piece (Elt F) S1x256x1920 .bf16)), Σ' (L14 : List (View.Piece (Elt F) S1x256x1920 .fp8e4m3)), Σ' (L15 : List (View.Piece (Elt F) S48x256 .f32)), Σ' (L16 : List (View.Piece (Elt F) S1x256x7680 .fp8e4m3)), Σ' (L17 : List (View.Piece (Elt F) S48x256 .f32)), Σ' (LT0 : List (View.Piece (Elt F) S256x1920 .f32)), { LT1 : List (View.Piece (Elt F) S256x7680 .f32) //
      ∀ (E : Set ℕ) (x15 x17 : Vec F S48x256 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare x15 ∗ (∃ d, owns (c : Thread nD τ) arg17 fullShare d) ∗ owns (c : Thread nD τ) arg18 fullShare x17 ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (arg16.view.loc (c : Thread nD τ) ↦[arg16.view.set]{fullShare} arg16.view.writes (Elt F) (harg16.unread x15) L15) ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread x17) L17) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E x15 x17 K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%d16, %f16, -, H16⟩, ⟨%f17, %hf17, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexact H15
    isplitl [H16]; · iexists _; iexact H16
    isplitl [H17]; · iexact H17
    isplitl [HS0]; · iexists _; iexact HS0
    iexists _; iexact HS1

end Cert.FfnIdeal.Hand

end
-- ==== Proof.FfnSpec.lean ====
/- One row of the feed-forward block over the extended reals, and the few facts of extended-real arithmetic by which
   the kernel's spelling of a step meets the reference's. -/
module

public import Idealize.ShloMosaic.Lib.Pointwise

@[expose] public section

set_option maxRecDepth 16384

noncomputable section

namespace Cert.FfnSpec

open Idealize.ShloMosaic

/-- The float constants, as the extended reals that their patterns denote. -/
abbrev cN : EReal := Ideal.ofBits .f32 0x44F00000#32
abbrev cEps : EReal := Ideal.ofBits .f32 0x358637BD#32
abbrev cMax : EReal := Ideal.ofBits .f32 0x43E00000#32
abbrev cMin : EReal := Ideal.ofBits .f32 0xC3E00000#32
abbrev cHalf : EReal := Ideal.ofBits .f32 0x3F000000#32
abbrev cBot : EReal := Ideal.ofBits .f32 0xFF800000#32

theorem cN_eq : cN = ((1920 : ℝ) : EReal) := by
  simp [Ideal.ofBits, Ideal.ieee, -EReal.coe_mul]; norm_num
theorem cMax_eq : cMax = ((448 : ℝ) : EReal) := by
  simp [Ideal.ofBits, Ideal.ieee, -EReal.coe_mul]; norm_num
theorem cBot_eq : cBot = ⊥ := by
  simp [Ideal.ofBits, Ideal.ieee, -EReal.coe_mul]
theorem cEps_pos : ∃ e : ℝ, 0 < e ∧ cEps = (e : EReal) := by
  refine ⟨_, ?_, show cEps = ((8796093 * (2 : ℝ) ^ (-43 : Int) : ℝ) : EReal) from ?_⟩
  · positivity
  · simp [Ideal.ofBits, Ideal.ieee, -EReal.coe_mul]

/-- The absolute value. -/
abbrev ab (x : EReal) : EReal := FloatOps.absf (F := Ideal) (φ := .f32) x

theorem ab_nonneg (x : EReal) : 0 ≤ ab x := by
  show 0 ≤ max x (-x)
  rcases le_total 0 x with h | h
  · exact le_max_of_le_left h
  · exact le_max_of_le_right (by simpa using EReal.neg_le_neg_iff.2 h)

/-- A linear layer on quantised operands: the codes' product times the row's scale times the column's, plus the bias. -/
def lin {K : ℕ} (a : Fin K → EReal) (s : EReal) (w : Fin K → EReal) (ws b : EReal) : EReal := (∑ k, a k * w k) * s * ws + b

def mean (x : Fin 1920 → EReal) : EReal := Ideal.div (∑ k, x k) cN
def sd (x : Fin 1920 → EReal) : EReal := Ideal.sqrt (Ideal.div (∑ k, (x k - mean x) * (x k - mean x)) cN + cEps)
/-- Layer norm with a scale and a shift. -/
def lnv (x sc sh : Fin 1920 → EReal) (n : Fin 1920) : EReal := Ideal.div (x n - mean x) (sd x) * (1 + sc n) + sh n

/-- The largest magnitude of a row. -/
def amax {K : ℕ} (g : Fin K → EReal) : EReal := Finset.fold max cBot (fun k => ab (g k)) Finset.univ
/-- The row's scale: a row of zeros has scale one. -/
def tsc (a : EReal) : EReal := if a = 0 then 1 else Ideal.div a cMax
/-- The code of one number. -/
def tcode (g s : EReal) : EReal := min cMax (max cMin (Ideal.div g s))

abbrev cS : EReal := ((Real.sqrt (2 * Real.pi⁻¹) : ℝ) : EReal)
abbrev cC : EReal := ((8943 / 200000 : ℝ) : EReal)
abbrev cSC : EReal := ((Real.sqrt (2 * Real.pi⁻¹) * (8943 / 200000) : ℝ) : EReal)

/-- GELU, tanh form. -/
def gel (h : EReal) : EReal := cHalf * h + cHalf * h * Ideal.tanh (cS * (h + cC * (h * (h * h))))

theorem sqrt_pos : 0 < Real.sqrt (2 * Real.pi⁻¹) := Real.sqrt_pos.2 (by positivity)

theorem gel_arg (h : EReal) : h * (cS + cSC * (h * h)) = cS * (h + cC * (h * (h * h))) := by
  have hS : (0 : EReal) < cS := EReal.coe_pos.2 sqrt_pos
  have hC : (0 : EReal) < cC := EReal.coe_pos.2 (by norm_num)
  have hSC : (0 : EReal) < cSC := EReal.coe_pos.2 (mul_pos sqrt_pos (by norm_num))
  induction h using EReal.rec with
  | bot =>
    rw [EReal.bot_mul_bot, EReal.mul_top_of_pos hSC, EReal.bot_mul_top, EReal.mul_bot_of_pos hC, EReal.bot_add, EReal.mul_bot_of_pos hS,
      EReal.coe_add_top, EReal.bot_mul_top]
  | coe r =>
    norm_cast
    push_cast
    norm_cast
    ring
  | top =>
    rw [EReal.top_mul_top, EReal.mul_top_of_pos hSC, EReal.top_mul_top, EReal.mul_top_of_pos hC, EReal.top_add_top, EReal.mul_top_of_pos hS,
      EReal.coe_add_top, EReal.top_mul_top]

/-- The kernel's polynomial inside the tanh is the reference's. -/
theorem gel_eq (h : EReal) : cHalf * h + cHalf * h * Ideal.tanh (h * (cS + cSC * (h * h))) = gel h := by
  rw [gel_arg, gel]

theorem mul_div_one {s : EReal} (hs : s ≠ 0) (x : EReal) : x * Ideal.div 1 s = Ideal.div x s := by
  simp only [Ideal.div, if_neg hs, one_mul]

theorem tsc_ne (a : EReal) : tsc a ≠ 0 := by
  unfold tsc
  split
  · exact one_ne_zero
  · rename_i h
    rw [cMax_eq, Ideal.div_coe (by norm_num)]
    exact mul_ne_zero h (by exact_mod_cast (by norm_num : (1 / 448 : ℝ) ≠ 0))

theorem sq_nonneg (x : EReal) : 0 ≤ x * x := by
  rcases le_total 0 x with h | h
  · exact mul_nonneg h h
  · have := mul_nonneg (a := -x) (b := -x) (by simpa using EReal.neg_le_neg_iff.2 h) (by simpa using EReal.neg_le_neg_iff.2 h)
    simpa using this

theorem sd_ne (x : Fin 1920 → EReal) : sd x ≠ 0 := by
  obtain ⟨e, he, h⟩ := cEps_pos
  unfold sd
  rw [h, cN_eq, Ideal.div_coe (by norm_num)]
  have hv : (0 : EReal) ≤ (∑ k, (x k - mean x) * (x k - mean x)) * ((1 / 1920 : ℝ) : EReal) :=
    mul_nonneg (Finset.sum_nonneg fun k _ => sq_nonneg _) (by exact_mod_cast (by norm_num : (0 : ℝ) ≤ 1 / 1920))
  generalize (∑ k, (x k - mean x) * (x k - mean x)) * ((1 / 1920 : ℝ) : EReal) = v at hv
  induction v using EReal.rec with
  | bot => simp at hv
  | coe r =>
    have hr : 0 ≤ r := by exact_mod_cast hv
    rw [← EReal.coe_add, Ideal.sqrt_coe, if_neg (by linarith)]
    exact_mod_cast (Real.sqrt_pos.2 (by linarith)).ne'
  | top => simp

/-- The running maximum of the first terms of a sequence, from zero. -/
def cm (f : ℕ → EReal) : ℕ → EReal
  | 0 => 0
  | n + 1 => max (cm f n) (f n)

theorem cm_le (f : ℕ → EReal) (n : ℕ) (z : EReal) : cm f n ≤ z ↔ 0 ≤ z ∧ ∀ i < n, f i ≤ z := by
  induction n with
  | zero => simp [cm]
  | succ n ih =>
    rw [cm, max_le_iff, ih]
    constructor
    · rintro ⟨⟨h0, h⟩, hn⟩
      refine ⟨h0, fun i hi => ?_⟩
      rcases Nat.lt_succ_iff_lt_or_eq.1 hi with h' | rfl
      · exact h i h'
      · exact hn
    · rintro ⟨h0, h⟩
      exact ⟨⟨h0, fun i hi => h i (by omega)⟩, h n (by omega)⟩

/-- The largest magnitude taken 128 columns at a time from zero is the row's. -/
theorem amax_chunks {K J : ℕ} (hK : K = J * 128) (hJ : 0 < J) (g : ℕ → EReal) :
    Finset.fold max cBot (fun l : Fin 128 => cm (fun i => ab (g (128 * i + l))) J) Finset.univ = amax (fun k : Fin K => g k) := by
  refine eq_of_forall_ge_iff fun z => ?_
  rw [amax, Finset.fold_max_le, Finset.fold_max_le]
  refine and_congr_right fun _ => ?_
  simp only [cm_le, Finset.mem_univ, true_imp_iff]
  constructor
  · intro h k
    have := (h ⟨k.val % 128, Nat.mod_lt _ (by norm_num)⟩).2 (k.val / 128) (by have := k.isLt; omega)
    simpa [Nat.div_add_mod] using this
  · intro h l
    refine ⟨(ab_nonneg (g 0)).trans (h ⟨0, by omega⟩), fun i hi => h ⟨128 * i + l, ?_⟩⟩
    have := l.isLt
    omega

/-- What one token's row is computed from. -/
structure Row where
  x : Fin 1920 → EReal
  o : Fin 1920 → EReal
  os : EReal
  g1 : Fin 1920 → EReal
  g2 : Fin 1920 → EReal
  sc : Fin 1920 → EReal
  sh : Fin 1920 → EReal

/-- The weights, their scales and the biases. -/
structure Wts where
  wp : Fin 1920 → Fin 1920 → EReal
  wps : Fin 1920 → EReal
  bp : Fin 1920 → EReal
  w1 : Fin 1920 → Fin 7680 → EReal
  w1s : Fin 7680 → EReal
  b1 : Fin 7680 → EReal
  w2 : Fin 7680 → Fin 1920 → EReal
  w2s : Fin 1920 → EReal
  b2 : Fin 1920 → EReal

/-- The residual stream after the attention's projection. -/
def mid (R : Row) (W : Wts) (n : Fin 1920) : EReal := R.x n + R.g1 n * lin R.o R.os (fun k => W.wp k n) (W.wps n) (W.bp n)
def ln (R : Row) (W : Wts) (n : Fin 1920) : EReal := lnv (mid R W) R.sc R.sh n
def s2 (R : Row) (W : Wts) : EReal := tsc (amax (ln R W))
def c2 (R : Row) (W : Wts) (n : Fin 1920) : EReal := tcode (ln R W n) (s2 R W)
def g (R : Row) (W : Wts) (n : Fin 7680) : EReal := gel (lin (c2 R W) (s2 R W) (fun k => W.w1 k n) (W.w1s n) (W.b1 n))
def hs (R : Row) (W : Wts) : EReal := tsc (amax (g R W))
def hc (R : Row) (W : Wts) (n : Fin 7680) : EReal := tcode (g R W n) (hs R W)
def y (R : Row) (W : Wts) (n : Fin 1920) : EReal := mid R W n + R.g2 n * lin (hc R W) (hs R W) (fun k => W.w2 k n) (W.w2s n) (W.b2 n)

end Cert.FfnSpec

end
-- ==== Proof.FfnPt.lean ====
/- The words of one run of the kernel's body, named once: a run's arguments in one record, and what a load reads. -/
module

public import proofs.«01_k».proof.Proof.FfnRun
public import proofs.«01_k».proof.Proof.FfnSpec
public import Idealize.ShloMosaic.Lib.Pipeline.ValueKit
public import Idealize.ShloMosaic.Lib.WholeRead

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (Row Wts gel lin)

/-- The arguments of one run of the body: the grid point, the staging buffers, and the inputs' blocks. -/
structure Pt where
  c : Dev nD
  i : grid0.Coords
  arg1 : Memref sig .tc .vmem S1x256x1920 .bf16
  harg1 : arg1.IsWhole
  arg2 : Memref sig .tc .vmem S6x48x1920 .f32
  harg2 : arg2.IsWhole
  arg3 : Memref sig .tc .vmem S1x256x1920 .fp8e4m3
  harg3 : arg3.IsWhole
  arg4 : Memref sig .tc .vmem S48x256 .f32
  harg4 : arg4.IsWhole
  arg5 : Memref sig .tc .vmem S1920x1920 .fp8e4m3
  harg5 : arg5.IsWhole
  arg6 : Memref sig .tc .vmem S1x1920 .f32
  harg6 : arg6.IsWhole
  arg7 : Memref sig .tc .vmem S1x1920 .f32
  harg7 : arg7.IsWhole
  arg8 : Memref sig .tc .vmem S1920x7680 .fp8e4m3
  harg8 : arg8.IsWhole
  arg9 : Memref sig .tc .vmem S1x7680 .f32
  harg9 : arg9.IsWhole
  arg10 : Memref sig .tc .vmem S1x7680 .f32
  harg10 : arg10.IsWhole
  arg11 : Memref sig .tc .vmem S7680x1920 .fp8e4m3
  harg11 : arg11.IsWhole
  arg12 : Memref sig .tc .vmem S1x1920 .f32
  harg12 : arg12.IsWhole
  arg13 : Memref sig .tc .vmem S1x1920 .f32
  harg13 : arg13.IsWhole
  arg14 : Memref sig .tc .vmem S1x256x1920 .bf16
  harg14 : arg14.IsWhole
  arg15 : Memref sig .tc .vmem S1x256x1920 .fp8e4m3
  harg15 : arg15.IsWhole
  arg16 : Memref sig .tc .vmem S48x256 .f32
  harg16 : arg16.IsWhole
  arg17 : Memref sig .tc .vmem S1x256x7680 .fp8e4m3
  harg17 : arg17.IsWhole
  arg18 : Memref sig .tc .vmem S48x256 .f32
  harg18 : arg18.IsWhole
  arg19 : Memref sig .tc .vmem S256x1920 .f32
  harg19 : arg19.IsWhole
  arg20 : Memref sig .tc .vmem S256x7680 .f32
  harg20 : arg20.IsWhole
  x0 : Vec Ideal S1x256x1920 .bf16
  x1 : Vec Ideal S6x48x1920 .f32
  x2 : Vec Ideal S1x256x1920 .fp8e4m3
  x3 : Vec Ideal S48x256 .f32
  x4 : Vec Ideal S1920x1920 .fp8e4m3
  x5 : Vec Ideal S1x1920 .f32
  x6 : Vec Ideal S1x1920 .f32
  x7 : Vec Ideal S1920x7680 .fp8e4m3
  x8 : Vec Ideal S1x7680 .f32
  x9 : Vec Ideal S1x7680 .f32
  x10 : Vec Ideal S7680x1920 .fp8e4m3
  x11 : Vec Ideal S1x1920 .f32
  x12 : Vec Ideal S1x1920 .f32

namespace Pt

variable (X : Pt)

/-- The grid point's number, the batch that it works on. -/
def b : Fin 48 := X.i 0
/-- Row `r` of the batch. -/
def row (r : Fin 256) : Row where
  x n := X.x0 (ix3 0 r n)
  o n := X.x2 (ix3 0 r n)
  os := X.x3 (ix2 X.b r)
  g1 n := X.x1 (ix3 0 X.b n)
  g2 n := X.x1 (ix3 1 X.b n)
  sc n := X.x1 (ix3 3 X.b n)
  sh n := X.x1 (ix3 5 X.b n)
/-- The weights. -/
def wts : Wts where
  wp k n := X.x4 (ix2 k n)
  wps n := X.x5 (ix2 0 n)
  bp n := X.x6 (ix2 0 n)
  w1 k n := X.x7 (ix2 k n)
  w1s n := X.x8 (ix2 0 n)
  b1 n := X.x9 (ix2 0 n)
  w2 k n := X.x10 (ix2 k n)
  w2s n := X.x11 (ix2 0 n)
  b2 n := X.x12 (ix2 0 n)
/-- The hidden layer of row `r` before its activation, at a column counted from zero. -/
def pre (r : Fin 256) (n : ℕ) : EReal :=
  if h : n < 7680 then lin (Cert.FfnSpec.c2 (X.row r) X.wts) (Cert.FfnSpec.s2 (X.row r) X.wts) (fun k => X.wts.w1 k ⟨n, h⟩) (X.wts.w1s ⟨n, h⟩) (X.wts.b1 ⟨n, h⟩) else 0
/-- The hidden layer of row `r`. -/
def gN (r : Fin 256) (n : ℕ) : EReal := gel (X.pre r n)

theorem pre_eq (r : Fin 256) (n : ℕ) (h : n < 7680) :
    lin (Cert.FfnSpec.c2 (X.row r) X.wts) (Cert.FfnSpec.s2 (X.row r) X.wts) (fun k => X.x7 (ix2 k ⟨n, h⟩)) (X.x8 (ix2 0 ⟨n, h⟩)) (X.x9 (ix2 0 ⟨n, h⟩))
      = X.pre r n := by
  rw [pre, dif_pos h]; rfl
theorem gN_eq (r : Fin 256) (n : Fin 7680) : X.gN r n = Cert.FfnSpec.g (X.row r) X.wts n := by
  rw [gN, pre, dif_pos n.isLt]; rfl

abbrev r_0 := ffnRun.sl.r (F := Ideal) X.c X.i X.arg2 X.harg2 X.x1
abbrev r_1 := ffnRun.sl.r_1 (F := Ideal) X.c X.i X.arg2 X.harg2 X.x1
abbrev r_2 := ffnRun.sl.r_2 (F := Ideal) X.c X.i X.arg2 X.harg2 X.x1
abbrev r_3 := ffnRun.sl.r_3 (F := Ideal) X.c X.i X.arg2 X.harg2 X.x1
abbrev r_4 := ffnRun.sl.r_4 (F := Ideal) X.c X.i X.arg4 X.harg4 X.x3
abbrev r_5 := ffnRun.sl.r_5 (F := Ideal) X.c X.arg3 X.harg3 X.x2
abbrev r_6 := ffnRun.sl.r_6 (F := Ideal) X.c X.i X.arg3 X.harg3 X.arg4 X.harg4 X.arg5 X.harg5 X.arg6 X.harg6 X.arg7 X.harg7 X.x2 X.x3 X.x4 X.x5 X.x6
abbrev r_7 := ffnRun.sl.r_7 (F := Ideal) X.c X.arg1 X.harg1 X.x0
abbrev r_8 := ffnRun.sl.r_8 (F := Ideal) X.c X.i X.arg2 X.harg2 X.x1
abbrev r_9 := ffnRun.sl.r_9 (F := Ideal) X.c X.i X.arg3 X.harg3 X.arg4 X.harg4 X.arg5 X.harg5 X.arg6 X.harg6 X.x2 X.x3 X.x4 X.x5
abbrev r_10 := ffnRun.sl.r_10 (F := Ideal) X.c X.i X.arg1 X.harg1 X.arg2 X.harg2 X.arg3 X.harg3 X.arg4 X.harg4 X.arg5 X.harg5 X.arg6 X.harg6 X.arg7 X.harg7 X.arg19 X.x0 X.x1 X.x2 X.x3 X.x4 X.x5 X.x6
abbrev r_11 := ffnRun.sl.r_11 (F := Ideal) X.c X.i X.arg1 X.harg1 X.arg2 X.harg2 X.arg3 X.harg3 X.arg4 X.harg4 X.arg5 X.harg5 X.arg6 X.harg6 X.arg7 X.harg7 X.arg19 X.x0 X.x1 X.x2 X.x3 X.x4 X.x5 X.x6
abbrev r_13 := ffnRun.sl.r_13 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_14 := ffnRun.sl.r_14 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_15 := ffnRun.sl.r_15 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_16 := ffnRun.sl.r_16 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_17 := ffnRun.sl.r_17 (F := Ideal) X.c X.i X.arg1 X.harg1 X.arg2 X.harg2 X.arg3 X.harg3 X.arg4 X.harg4 X.arg5 X.harg5 X.arg6 X.harg6 X.arg7 X.harg7 X.arg8 X.harg8 X.arg19 X.x0 X.x1 X.x2 X.x3 X.x4 X.x5 X.x6 X.x7
abbrev r_18 := ffnRun.sl.r_18 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_19 := ffnRun.sl.r_19 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg19 X.x0 X.x1 X.x2 X.x3 X.x4 X.x5 X.x6 X.x7 X.x8
abbrev r_20 := ffnRun.sl.r_20 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_21 := ffnRun.sl.r_21 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_22 := ffnRun.sl.r_22 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_23 := ffnRun.sl.r_23 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_24 := ffnRun.sl.r_24 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_25 := ffnRun.sl.r_25 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_26 := ffnRun.sl.r_26 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_27 := ffnRun.sl.r_27 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_28 := ffnRun.sl.r_28 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_29 := ffnRun.sl.r_29 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_30 := ffnRun.sl.r_30 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_31 := ffnRun.sl.r_31 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_32 := ffnRun.sl.r_32 (F := Ideal) X.c X.i X.arg1 X.harg1 X.arg2 X.harg2 X.arg3 X.harg3 X.arg4 X.harg4 X.arg5 X.harg5 X.arg6 X.harg6 X.arg7 X.harg7 X.arg8 X.harg8 X.arg19 X.x0 X.x1 X.x2 X.x3 X.x4 X.x5 X.x6 X.x7
abbrev r_33 := ffnRun.sl.r_33 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_34 := ffnRun.sl.r_34 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg19 X.x0 X.x1 X.x2 X.x3 X.x4 X.x5 X.x6 X.x7 X.x8
abbrev r_35 := ffnRun.sl.r_35 (F := Ideal) X.c X.arg10 X.harg10 X.x9
abbrev r_36 := ffnRun.sl.r_36 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_37 := ffnRun.sl.r_37 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_38 := ffnRun.sl.r_38 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_39 := ffnRun.sl.r_39 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_40 := ffnRun.sl.r_40 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_41 := ffnRun.sl.r_41 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_42 := ffnRun.sl.r_42 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_43 := ffnRun.sl.r_43 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_44 := ffnRun.sl.r_44 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_45 := ffnRun.sl.r_45 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev r_46 := ffnRun.sl.r_46 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg17 X.arg19 X.arg20 X.x0 X.x1 X.x2 X.x3 X.x4 X.x5 X.x6 X.x7 X.x8 X.x9
abbrev r_47 := ffnRun.sl.r_47 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg17 X.arg19 X.arg20 X.x0 X.x1 X.x2 X.x3 X.x4 X.x5 X.x6 X.x7 X.x8 X.x9 X.x10 X.x11
abbrev r_48 := ffnRun.sl.r_48 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg11 X.harg11 X.arg17 X.arg19 X.arg20 X.x0 X.x1 X.x2 X.x3 X.x4 X.x5 X.x6 X.x7 X.x8 X.x9 X.x10
abbrev r_49 := ffnRun.sl.r_49 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg13 X.harg13 X.arg17 X.arg19 X.arg20 X.x0 X.x1 X.x2 X.x3 X.x4 X.x5 X.x6 X.x7 X.x8 X.x9 X.x10 X.x11 X.x12
abbrev v0 := ffnRun.sl.v (F := Ideal) X.c X.i X.arg1 X.harg1 X.arg2 X.harg2 X.arg3 X.harg3 X.arg4 X.harg4 X.arg5 X.harg5 X.arg6 X.harg6 X.arg7 X.harg7 X.arg19 X.x0 X.x1 X.x2 X.x3 X.x4 X.x5 X.x6
abbrev HS0_4 := ffnRun.sl.HS0_4 (F := Ideal) X.c X.i X.arg1 X.harg1 X.arg2 X.harg2 X.arg3 X.harg3 X.arg4 X.harg4 X.arg5 X.harg5 X.arg6 X.harg6 X.arg7 X.harg7 X.x0 X.x1 X.x2 X.x3 X.x4 X.x5 X.x6
abbrev HS1_15 := ffnRun.sl.HS1_15 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.x0 X.x1 X.x2 X.x3 X.x4 X.x5 X.x6 X.x7 X.x8 X.x9
abbrev H16_1 := ffnRun.sl.H16_1 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.arg20 X.x0 X.x1 X.x2 X.x3 X.x4 X.x5 X.x6 X.x7 X.x8 X.x9
abbrev v749 := ffnRun.sl.v749 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg19 X.arg20 X.x0 X.x1 X.x2 X.x3 X.x4 X.x5 X.x6 X.x7 X.x8 X.x9
abbrev v762 := ffnRun.sl.v762 (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg17 X.arg19 X.arg20 X.x0 X.x1 X.x2 X.x3 X.x4 X.x5 X.x6 X.x7 X.x8 X.x9
abbrev v776 := ffnRun.sl.v776 (F := Ideal) X.c X.i X.arg1 X.harg1 X.arg2 X.harg2 X.arg3 X.harg3 X.arg4 X.harg4 X.arg5 X.harg5 X.arg6 X.harg6 X.arg7 X.harg7 X.arg19 X.x0 X.x1 X.x2 X.x3 X.x4 X.x5 X.x6
abbrev v797 := ffnRun.sl.v797 (F := Ideal) X.c X.i X.arg1 X.harg1 X.arg2 X.harg2 X.arg3 X.harg3 X.arg4 X.harg4 X.arg5 X.harg5 X.arg6 X.harg6 X.arg7 X.harg7 X.arg19 X.x0 X.x1 X.x2 X.x3 X.x4 X.x5 X.x6
abbrev v818 := ffnRun.sl.v818 (F := Ideal) X.c X.i X.arg1 X.harg1 X.arg2 X.harg2 X.arg3 X.harg3 X.arg4 X.harg4 X.arg5 X.harg5 X.arg6 X.harg6 X.arg7 X.harg7 X.arg19 X.x0 X.x1 X.x2 X.x3 X.x4 X.x5 X.x6
abbrev v839 := ffnRun.sl.v839 (F := Ideal) X.c X.i X.arg1 X.harg1 X.arg2 X.harg2 X.arg3 X.harg3 X.arg4 X.harg4 X.arg5 X.harg5 X.arg6 X.harg6 X.arg7 X.harg7 X.arg19 X.x0 X.x1 X.x2 X.x3 X.x4 X.x5 X.x6

end Pt

/-- A load of some columns of a whole buffer, at an index. -/
theorem ldc {κ : Kind} {sp : Space} {e : EltTy} {A B b off : ℕ} (M : Memref sig κ sp ⟨2, ![A, B]⟩ e) (h : M.IsWhole)
    (X : (⟨2, ![A, B]⟩ : Shape).Idx → Elt Ideal e)
    (inb : ∀ a, (![0, off] : Fin 2 → ℕ) a + (![A, b] : Fin 2 → ℕ) a ≤ (⟨2, ![A, B]⟩ : Shape).size a) (r : Fin A) (n : Fin b) :
    View.readAt (Elt Ideal) M.view (Rect.unit (s := ⟨2, ![A, B]⟩) ![0, off] ![A, b] inb).toLoadRect (h.unread X) (ix2 r n)
      = X (ix2 r ⟨off + n.val, by have h1 : off + b ≤ B := inb 1; have := n.isLt; omega⟩) := by
  rw [Memref.IsWhole.readAt_unread]
  refine congrArg X (funext fun a => ?_)
  refine Fin.cases ?_ (fun a => Fin.cases ?_ (fun a => a.elim0) a) a
  · exact Fin.ext (show 0 + 1 * r.val = r.val by omega)
  · exact Fin.ext (show off + 1 * n.val = off + n.val by omega)

/-- A load of one row of a plane. -/
theorem ldr {κ : Kind} {sp : Space} {e : EltTy} {A B p : ℕ} {off : Fin 2 → ℕ} (ho : off = ![p, 0]) (M : Memref sig κ sp ⟨2, ![A, B]⟩ e) (h : M.IsWhole)
    (X : (⟨2, ![A, B]⟩ : Shape).Idx → Elt Ideal e)
    (inb : ∀ a, off a + (![1, B] : Fin 2 → ℕ) a ≤ (⟨2, ![A, B]⟩ : Shape).size a) (hp : p < A) (n : Fin B) :
    View.readAt (Elt Ideal) M.view (Rect.unit (s := ⟨2, ![A, B]⟩) off ![1, B] inb).toLoadRect (h.unread X) (ix2 0 n)
      = X (ix2 ⟨p, hp⟩ n) := by
  subst ho
  rw [Memref.IsWhole.readAt_unread]
  refine congrArg X (funext fun a => ?_)
  refine Fin.cases ?_ (fun a => Fin.cases ?_ (fun a => a.elim0) a) a
  · exact Fin.ext (show p + 1 * 0 = p by omega)
  · exact Fin.ext (show 0 + 1 * n.val = n.val by omega)

/-- A load of one row of a stack of planes. -/
theorem ldr3 {κ : Kind} {sp : Space} {e : EltTy} {A B C p q : ℕ} {off : Fin 3 → ℕ} (ho : off = ![p, q, 0]) (M : Memref sig κ sp ⟨3, ![A, B, C]⟩ e) (h : M.IsWhole)
    (X : (⟨3, ![A, B, C]⟩ : Shape).Idx → Elt Ideal e)
    (inb : ∀ a, off a + (![1, 1, C] : Fin 3 → ℕ) a ≤ (⟨3, ![A, B, C]⟩ : Shape).size a) (hp : p < A) (hq : q < B) (n : Fin C) :
    View.readAt (Elt Ideal) M.view (Rect.unit (s := ⟨3, ![A, B, C]⟩) off ![1, 1, C] inb).toLoadRect (h.unread X) (ix3 0 0 n)
      = X (ix3 ⟨p, hp⟩ ⟨q, hq⟩ n) := by
  subst ho
  rw [Memref.IsWhole.readAt_unread]
  refine congrArg X (funext fun a => ?_)
  refine Fin.cases ?_ (fun a => Fin.cases ?_ (fun a => Fin.cases ?_ (fun a => a.elim0) a) a) a
  · exact Fin.ext (show p + 1 * 0 = p by omega)
  · exact Fin.ext (show q + 1 * 0 = q by omega)
  · exact Fin.ext (show 0 + 1 * n.val = n.val by omega)

/-- A load of some columns of a block of one plane. -/
theorem ldc3 {κ : Kind} {sp : Space} {e : EltTy} {A B b off : ℕ} (M : Memref sig κ sp ⟨3, ![1, A, B]⟩ e) (h : M.IsWhole)
    (X : (⟨3, ![1, A, B]⟩ : Shape).Idx → Elt Ideal e)
    (inb : ∀ a, (![0, 0, off] : Fin 3 → ℕ) a + (![1, A, b] : Fin 3 → ℕ) a ≤ (⟨3, ![1, A, B]⟩ : Shape).size a) (r : Fin A) (n : Fin b) :
    View.readAt (Elt Ideal) M.view (Rect.unit (s := ⟨3, ![1, A, B]⟩) ![0, 0, off] ![1, A, b] inb).toLoadRect (h.unread X) (ix3 0 r n)
      = X (ix3 0 r ⟨off + n.val, by have h1 : off + b ≤ B := inb 2; have := n.isLt; omega⟩) := by
  rw [Memref.IsWhole.readAt_unread]
  refine congrArg X (funext fun a => ?_)
  refine Fin.cases ?_ (fun a => Fin.cases ?_ (fun a => Fin.cases ?_ (fun a => a.elim0) a) a) a
  · exact Fin.ext (show 0 + 1 * 0 = 0 by omega)
  · exact Fin.ext (show 0 + 1 * r.val = r.val by omega)
  · exact Fin.ext (show off + 1 * n.val = off + n.val by omega)

/-- A load of some columns of what stores have left. -/
theorem rdc {κ : Kind} {sp : Space} {e : EltTy} {A B b off : ℕ} (v : View sig κ sp ⟨2, ![A, B]⟩ e) (L : List (View.Piece (Elt Ideal) ⟨2, ![A, B]⟩ e))
    (inb : ∀ a, (![0, off] : Fin 2 → ℕ) a + (![A, b] : Fin 2 → ℕ) a ≤ (⟨2, ![A, B]⟩ : Shape).size a) (r : Fin A) (n : Fin b) :
    v.readCov L (Rect.unit (s := ⟨2, ![A, B]⟩) ![0, off] ![A, b] inb).toLoadRect (ix2 r n)
      = View.canon L (ix2 r ⟨off + n.val, by have h1 : off + b ≤ B := inb 1; have := n.isLt; omega⟩) := by
  rw [View.readCov_eq_canon']
  refine congrArg (View.canon L) (funext fun a => ?_)
  refine Fin.cases ?_ (fun a => Fin.cases ?_ (fun a => a.elim0) a) a
  · exact Fin.ext (show 0 + 1 * r.val = r.val by omega)
  · exact Fin.ext (show off + 1 * n.val = off + n.val by omega)

/-- The batch's number names the rows of the operands that hold every batch. -/
theorem off1 (X : Pt) : k0_off1 X.i = ![0, X.b.val, 0] := k0_off1_eq _
theorem off2 (X : Pt) : k0_off2 X.i = ![1, X.b.val, 0] := k0_off2_eq _
theorem off3 (X : Pt) : k0_off3 X.i = ![3, X.b.val, 0] := k0_off3_eq _
theorem off4 (X : Pt) : k0_off4 X.i = ![5, X.b.val, 0] := k0_off4_eq _
theorem off5 (X : Pt) : k0_off5 X.i = ![X.b.val, 0] := k0_off5_eq _

end Cert.FfnIdeal.Hand

end
-- ==== Proof.FfnPayA1.lean ====
/- The kernel's GELU tiles, read at an index: first half. -/
module

public import proofs.«01_k».proof.Proof.Gen.FfnIdeal.Skeleton
public import proofs.«01_k».proof.Proof.FfnSpec

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (cS cC cSC cN cEps cMax cMin cHalf cBot ab lin gel gel_eq cm amax tsc tcode lnv mean sd)

/-- The two constants of the kernel's GELU. -/
theorem a_named_c : Named.named (F := Ideal) κ "gelu_c" (φ := .f32) 0x3F4C422A#32 = cS :=
  IdealRules.named_const.ideal_named_scalar _ _ _ _ rfl
theorem a_named_c3 : Named.named (F := Ideal) κ "gelu_c3" (φ := .f32) 0x3D122279#32 = cSC :=
  IdealRules.named_const.ideal_named_scalar _ _ _ _ rfl

theorem p20 (v145 : FVec Ideal S256x1 .f32) (v154 : FVec Ideal S256x1920 .fp8e4m3) (v165 : FVec Ideal S1920x512 .fp8e4m3) (v169 : FVec Ideal S1x512 .f32) (v173 : FVec Ideal S1x512 .f32) (r : Fin 256) (n : Fin 512) :
    k0_pay20 (F := Ideal) v145 v154 v165 v169 v173 (ix2 r n) = gel (lin (fun k => v154 (ix2 r k)) (v145 (ix2 r 0)) (fun k => v165 (ix2 k n)) (v169 (ix2 0 n)) (v173 (ix2 0 n))) := by
  pointwise [k0_pay20]
  rw [a_named_c, a_named_c3]
  exact gel_eq _

theorem p21 (v145 : FVec Ideal S256x1 .f32) (v154 : FVec Ideal S256x1920 .fp8e4m3) (v165 : FVec Ideal S1920x512 .fp8e4m3) (v169 : FVec Ideal S1x512 .f32) (v173 : FVec Ideal S1x512 .f32) (r : Fin 256) (n : Fin 512) :
    k0_pay21 (F := Ideal) v145 v154 v165 v169 v173 (ix2 r n) = gel (lin (fun k => v154 (ix2 r k)) (v145 (ix2 r 0)) (fun k => v165 (ix2 k n)) (v169 (ix2 0 n)) (v173 (ix2 0 n))) := by
  pointwise [k0_pay21]
  exact p20 _ _ _ _ _ r n

theorem p24 (v145 : FVec Ideal S256x1 .f32) (v154 : FVec Ideal S256x1920 .fp8e4m3) (v203 : FVec Ideal S1920x512 .fp8e4m3) (v207 : FVec Ideal S1x512 .f32) (v211 : FVec Ideal S1x512 .f32) (r : Fin 256) (n : Fin 512) :
    k0_pay24 (F := Ideal) v145 v154 v203 v207 v211 (ix2 r n) = gel (lin (fun k => v154 (ix2 r k)) (v145 (ix2 r 0)) (fun k => v203 (ix2 k n)) (v207 (ix2 0 n)) (v211 (ix2 0 n))) := by
  pointwise [k0_pay24]
  rw [a_named_c, a_named_c3]
  exact gel_eq _

theorem p25 (v145 : FVec Ideal S256x1 .f32) (v154 : FVec Ideal S256x1920 .fp8e4m3) (v203 : FVec Ideal S1920x512 .fp8e4m3) (v207 : FVec Ideal S1x512 .f32) (v211 : FVec Ideal S1x512 .f32) (r : Fin 256) (n : Fin 512) :
    k0_pay25 (F := Ideal) v145 v154 v203 v207 v211 (ix2 r n) = gel (lin (fun k => v154 (ix2 r k)) (v145 (ix2 r 0)) (fun k => v203 (ix2 k n)) (v207 (ix2 0 n)) (v211 (ix2 0 n))) := by
  pointwise [k0_pay25]
  exact p24 _ _ _ _ _ r n

theorem p46 (v145 : FVec Ideal S256x1 .f32) (v154 : FVec Ideal S256x1920 .fp8e4m3) (v393 : FVec Ideal S1920x512 .fp8e4m3) (v397 : FVec Ideal S1x512 .f32) (v401 : FVec Ideal S1x512 .f32) (r : Fin 256) (n : Fin 512) :
    k0_pay46 (F := Ideal) v145 v154 v393 v397 v401 (ix2 r n) = gel (lin (fun k => v154 (ix2 r k)) (v145 (ix2 r 0)) (fun k => v393 (ix2 k n)) (v397 (ix2 0 n)) (v401 (ix2 0 n))) := by
  pointwise [k0_pay46]
  rw [a_named_c, a_named_c3]
  exact gel_eq _

theorem p47 (v145 : FVec Ideal S256x1 .f32) (v154 : FVec Ideal S256x1920 .fp8e4m3) (v393 : FVec Ideal S1920x512 .fp8e4m3) (v397 : FVec Ideal S1x512 .f32) (v401 : FVec Ideal S1x512 .f32) (r : Fin 256) (n : Fin 512) :
    k0_pay47 (F := Ideal) v145 v154 v393 v397 v401 (ix2 r n) = gel (lin (fun k => v154 (ix2 r k)) (v145 (ix2 r 0)) (fun k => v393 (ix2 k n)) (v397 (ix2 0 n)) (v401 (ix2 0 n))) := by
  pointwise [k0_pay47]
  exact p46 _ _ _ _ _ r n

theorem p49 (v145 : FVec Ideal S256x1 .f32) (v154 : FVec Ideal S256x1920 .fp8e4m3) (v431 : FVec Ideal S1920x512 .fp8e4m3) (v435 : FVec Ideal S1x512 .f32) (v439 : FVec Ideal S1x512 .f32) (r : Fin 256) (n : Fin 512) :
    k0_pay49 (F := Ideal) v145 v154 v431 v435 v439 (ix2 r n) = gel (lin (fun k => v154 (ix2 r k)) (v145 (ix2 r 0)) (fun k => v431 (ix2 k n)) (v435 (ix2 0 n)) (v439 (ix2 0 n))) := by
  pointwise [k0_pay49]
  rw [a_named_c, a_named_c3]
  exact gel_eq _

theorem p50 (v145 : FVec Ideal S256x1 .f32) (v154 : FVec Ideal S256x1920 .fp8e4m3) (v431 : FVec Ideal S1920x512 .fp8e4m3) (v435 : FVec Ideal S1x512 .f32) (v439 : FVec Ideal S1x512 .f32) (r : Fin 256) (n : Fin 512) :
    k0_pay50 (F := Ideal) v145 v154 v431 v435 v439 (ix2 r n) = gel (lin (fun k => v154 (ix2 r k)) (v145 (ix2 r 0)) (fun k => v431 (ix2 k n)) (v435 (ix2 0 n)) (v439 (ix2 0 n))) := by
  pointwise [k0_pay50]
  exact p49 _ _ _ _ _ r n

end Cert.FfnIdeal.Hand

end
-- ==== Proof.FfnPayA2.lean ====
/- The kernel's GELU tiles, read at an index: second half. -/
module

public import proofs.«01_k».proof.Proof.Gen.FfnIdeal.Skeleton
public import proofs.«01_k».proof.Proof.FfnSpec

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (cS cC cSC cN cEps cMax cMin cHalf cBot ab lin gel gel_eq cm amax tsc tcode lnv mean sd)

/-- The two constants of the kernel's GELU. -/
theorem b_named_c : Named.named (F := Ideal) κ "gelu_c" (φ := .f32) 0x3F4C422A#32 = cS :=
  IdealRules.named_const.ideal_named_scalar _ _ _ _ rfl
theorem b_named_c3 : Named.named (F := Ideal) κ "gelu_c3" (φ := .f32) 0x3D122279#32 = cSC :=
  IdealRules.named_const.ideal_named_scalar _ _ _ _ rfl

theorem p53 (v145 : FVec Ideal S256x1 .f32) (v154 : FVec Ideal S256x1920 .fp8e4m3) (v469 : FVec Ideal S1920x512 .fp8e4m3) (v473 : FVec Ideal S1x512 .f32) (v477 : FVec Ideal S1x512 .f32) (r : Fin 256) (n : Fin 512) :
    k0_pay53 (F := Ideal) v145 v154 v469 v473 v477 (ix2 r n) = gel (lin (fun k => v154 (ix2 r k)) (v145 (ix2 r 0)) (fun k => v469 (ix2 k n)) (v473 (ix2 0 n)) (v477 (ix2 0 n))) := by
  pointwise [k0_pay53]
  rw [b_named_c, b_named_c3]
  exact gel_eq _

theorem p54 (v145 : FVec Ideal S256x1 .f32) (v154 : FVec Ideal S256x1920 .fp8e4m3) (v469 : FVec Ideal S1920x512 .fp8e4m3) (v473 : FVec Ideal S1x512 .f32) (v477 : FVec Ideal S1x512 .f32) (r : Fin 256) (n : Fin 512) :
    k0_pay54 (F := Ideal) v145 v154 v469 v473 v477 (ix2 r n) = gel (lin (fun k => v154 (ix2 r k)) (v145 (ix2 r 0)) (fun k => v469 (ix2 k n)) (v473 (ix2 0 n)) (v477 (ix2 0 n))) := by
  pointwise [k0_pay54]
  exact p53 _ _ _ _ _ r n

theorem p72 (v145 : FVec Ideal S256x1 .f32) (v154 : FVec Ideal S256x1920 .fp8e4m3) (v659 : FVec Ideal S1920x512 .fp8e4m3) (v663 : FVec Ideal S1x512 .f32) (v667 : FVec Ideal S1x512 .f32) (r : Fin 256) (n : Fin 512) :
    k0_pay72 (F := Ideal) v145 v154 v659 v663 v667 (ix2 r n) = gel (lin (fun k => v154 (ix2 r k)) (v145 (ix2 r 0)) (fun k => v659 (ix2 k n)) (v663 (ix2 0 n)) (v667 (ix2 0 n))) := by
  pointwise [k0_pay72]
  rw [b_named_c, b_named_c3]
  exact gel_eq _

theorem p73 (v145 : FVec Ideal S256x1 .f32) (v154 : FVec Ideal S256x1920 .fp8e4m3) (v659 : FVec Ideal S1920x512 .fp8e4m3) (v663 : FVec Ideal S1x512 .f32) (v667 : FVec Ideal S1x512 .f32) (r : Fin 256) (n : Fin 512) :
    k0_pay73 (F := Ideal) v145 v154 v659 v663 v667 (ix2 r n) = gel (lin (fun k => v154 (ix2 r k)) (v145 (ix2 r 0)) (fun k => v659 (ix2 k n)) (v663 (ix2 0 n)) (v667 (ix2 0 n))) := by
  pointwise [k0_pay73]
  exact p72 _ _ _ _ _ r n

theorem p76 (v145 : FVec Ideal S256x1 .f32) (v154 : FVec Ideal S256x1920 .fp8e4m3) (v697 : FVec Ideal S1920x512 .fp8e4m3) (v701 : FVec Ideal S1x512 .f32) (v705 : FVec Ideal S1x512 .f32) (r : Fin 256) (n : Fin 512) :
    k0_pay76 (F := Ideal) v145 v154 v697 v701 v705 (ix2 r n) = gel (lin (fun k => v154 (ix2 r k)) (v145 (ix2 r 0)) (fun k => v697 (ix2 k n)) (v701 (ix2 0 n)) (v705 (ix2 0 n))) := by
  pointwise [k0_pay76]
  rw [b_named_c, b_named_c3]
  exact gel_eq _

theorem p77 (v145 : FVec Ideal S256x1 .f32) (v154 : FVec Ideal S256x1920 .fp8e4m3) (v697 : FVec Ideal S1920x512 .fp8e4m3) (v701 : FVec Ideal S1x512 .f32) (v705 : FVec Ideal S1x512 .f32) (r : Fin 256) (n : Fin 512) :
    k0_pay77 (F := Ideal) v145 v154 v697 v701 v705 (ix2 r n) = gel (lin (fun k => v154 (ix2 r k)) (v145 (ix2 r 0)) (fun k => v697 (ix2 k n)) (v701 (ix2 0 n)) (v705 (ix2 0 n))) := by
  pointwise [k0_pay77]
  exact p76 _ _ _ _ _ r n

theorem p70 (v145 : FVec Ideal S256x1 .f32) (v154 : FVec Ideal S256x1920 .fp8e4m3) (v621 : FVec Ideal S1920x512 .fp8e4m3) (v625 : FVec Ideal S1x512 .f32) (v629 : FVec Ideal S1x512 .f32) (r : Fin 256) (n : Fin 512) :
    k0_pay70 (F := Ideal) v145 v154 v621 v625 v629 (ix2 r n) = gel (lin (fun k => v154 (ix2 r k)) (v145 (ix2 r 0)) (fun k => v621 (ix2 k n)) (v625 (ix2 0 n)) (v629 (ix2 0 n))) := by
  pointwise [k0_pay70]
  rw [b_named_c, b_named_c3]
  exact gel_eq _

end Cert.FfnIdeal.Hand

end
-- ==== Proof.FfnPayC.lean ====
/- The kernel's GELU tiles whose computation is cut in two, read at an index. -/
module

public import proofs.«01_k».proof.Proof.Gen.FfnIdeal.Skeleton
public import proofs.«01_k».proof.Proof.FfnSpec

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (cS cC cSC cN cEps cMax cMin cHalf cBot ab lin gel gel_eq cm amax tsc tcode lnv mean sd)

/-- The two constants of the kernel's GELU. -/
theorem c_named_c : Named.named (F := Ideal) κ "gelu_c" (φ := .f32) 0x3F4C422A#32 = cS :=
  IdealRules.named_const.ideal_named_scalar _ _ _ _ rfl
theorem c_named_c3 : Named.named (F := Ideal) κ "gelu_c3" (φ := .f32) 0x3D122279#32 = cSC :=
  IdealRules.named_const.ideal_named_scalar _ _ _ _ rfl

theorem p27 (v154 : FVec Ideal S256x1920 .fp8e4m3) (v241 : FVec Ideal S1920x512 .fp8e4m3) (r : Fin 256) (n : Fin 512) :
    k0_pay27 (F := Ideal) v154 v241 (ix2 r n) = (∑ k, v154 (ix2 r k) * v241 (ix2 k n)) := by
  pointwise [k0_pay27]

theorem p28 (v145 : FVec Ideal S256x1 .f32) (v242 : FVec Ideal S256x512 .f32) (v245 : FVec Ideal S1x512 .f32) (v249 : FVec Ideal S1x512 .f32) (r : Fin 256) (n : Fin 512) :
    k0_pay28 (F := Ideal) v145 v242 v245 v249 (ix2 r n) = gel (v242 (ix2 r n) * v145 (ix2 r 0) * v245 (ix2 0 n) + v249 (ix2 0 n)) := by
  pointwise [k0_pay28]
  rw [c_named_c, c_named_c3]
  exact gel_eq _

theorem p29 (v145 : FVec Ideal S256x1 .f32) (v242 : FVec Ideal S256x512 .f32) (v245 : FVec Ideal S1x512 .f32) (v249 : FVec Ideal S1x512 .f32) (r : Fin 256) (n : Fin 512) :
    k0_pay29 (F := Ideal) v145 v242 v245 v249 (ix2 r n) = gel (v242 (ix2 r n) * v145 (ix2 r 0) * v245 (ix2 0 n) + v249 (ix2 0 n)) := by
  pointwise [k0_pay29]
  exact p28 _ _ _ _ r n

theorem p31 (v145 : FVec Ideal S256x1 .f32) (v154 : FVec Ideal S256x1920 .fp8e4m3) (v279 : FVec Ideal S1920x512 .fp8e4m3) (v283 : FVec Ideal S1x512 .f32) (r : Fin 256) (n : Fin 512) :
    k0_pay31 (F := Ideal) v145 v154 v279 v283 (ix2 r n) = (∑ k, v154 (ix2 r k) * v279 (ix2 k n)) * v145 (ix2 r 0) * v283 (ix2 0 n) := by
  pointwise [k0_pay31]

theorem p32 (v286 : FVec Ideal S256x512 .f32) (v287 : FVec Ideal S1x512 .f32) (r : Fin 256) (n : Fin 512) :
    k0_pay32 (F := Ideal) v286 v287 (ix2 r n) = gel (v286 (ix2 r n) + v287 (ix2 0 n)) := by
  pointwise [k0_pay32]
  rw [c_named_c, c_named_c3]
  exact gel_eq _

theorem p33 (v286 : FVec Ideal S256x512 .f32) (v287 : FVec Ideal S1x512 .f32) (r : Fin 256) (n : Fin 512) :
    k0_pay33 (F := Ideal) v286 v287 (ix2 r n) = gel (v286 (ix2 r n) + v287 (ix2 0 n)) := by
  pointwise [k0_pay33]
  exact p32 _ _ r n

theorem p35 (v145 : FVec Ideal S256x1 .f32) (v154 : FVec Ideal S256x1920 .fp8e4m3) (v317 : FVec Ideal S1920x512 .fp8e4m3) (v321 : FVec Ideal S1x512 .f32) (v325 : FVec Ideal S1x512 .f32) (r : Fin 256) (n : Fin 512) :
    k0_pay35 (F := Ideal) v145 v154 v317 v321 v325 (ix2 r n) = lin (fun k => v154 (ix2 r k)) (v145 (ix2 r 0)) (fun k => v317 (ix2 k n)) (v321 (ix2 0 n)) (v325 (ix2 0 n)) := by
  pointwise [k0_pay35, lin]

theorem p40 (v145 : FVec Ideal S256x1 .f32) (v154 : FVec Ideal S256x1920 .fp8e4m3) (v355 : FVec Ideal S1920x512 .fp8e4m3) (v359 : FVec Ideal S1x512 .f32) (v363 : FVec Ideal S1x512 .f32) (r : Fin 256) (n : Fin 512) :
    k0_pay40 (F := Ideal) v145 v154 v355 v359 v363 (ix2 r n) = lin (fun k => v154 (ix2 r k)) (v145 (ix2 r 0)) (fun k => v355 (ix2 k n)) (v359 (ix2 0 n)) (v363 (ix2 0 n)) := by
  pointwise [k0_pay40, lin]

theorem p65 (v145 : FVec Ideal S256x1 .f32) (v154 : FVec Ideal S256x1920 .fp8e4m3) (v583 : FVec Ideal S1920x512 .fp8e4m3) (v587 : FVec Ideal S1x512 .f32) (v591 : FVec Ideal S1x512 .f32) (r : Fin 256) (n : Fin 512) :
    k0_pay65 (F := Ideal) v145 v154 v583 v587 v591 (ix2 r n) = lin (fun k => v154 (ix2 r k)) (v145 (ix2 r 0)) (fun k => v583 (ix2 k n)) (v587 (ix2 0 n)) (v591 (ix2 0 n)) := by
  pointwise [k0_pay65, lin]

theorem p36 (v145 : FVec Ideal S256x1 .f32) (v154 : FVec Ideal S256x1920 .fp8e4m3) (v317 : FVec Ideal S1920x512 .fp8e4m3) (v321 : FVec Ideal S1x512 .f32) (v325 : FVec Ideal S1x512 .f32) (r : Fin 256) (n : Fin 512) :
    k0_pay36 (F := Ideal) v145 v154 v317 v321 v325 (ix2 r n) = cSC * (lin (fun k => v154 (ix2 r k)) (v145 (ix2 r 0)) (fun k => v317 (ix2 k n)) (v321 (ix2 0 n)) (v325 (ix2 0 n)) * lin (fun k => v154 (ix2 r k)) (v145 (ix2 r 0)) (fun k => v317 (ix2 k n)) (v321 (ix2 0 n)) (v325 (ix2 0 n))) := by
  pointwise [k0_pay36]
  rw [c_named_c3, p35]

theorem p37 (v328 : FVec Ideal S256x512 .f32) (v331 : FVec Ideal S256x512 .f32) (r : Fin 256) (n : Fin 512) :
    k0_pay37 (F := Ideal) v328 v331 (ix2 r n) = cHalf * v328 (ix2 r n) + cHalf * v328 (ix2 r n) * Ideal.tanh (v328 (ix2 r n) * (cS + v331 (ix2 r n))) := by
  pointwise [k0_pay37]
  rw [c_named_c]

theorem p38 (v328 : FVec Ideal S256x512 .f32) (v331 : FVec Ideal S256x512 .f32) (r : Fin 256) (n : Fin 512) :
    k0_pay38 (F := Ideal) v328 v331 (ix2 r n) = cHalf * v328 (ix2 r n) + cHalf * v328 (ix2 r n) * Ideal.tanh (v328 (ix2 r n) * (cS + v331 (ix2 r n))) := by
  pointwise [k0_pay38]
  exact p37 _ _ r n

theorem p41 (v145 : FVec Ideal S256x1 .f32) (v154 : FVec Ideal S256x1920 .fp8e4m3) (v355 : FVec Ideal S1920x512 .fp8e4m3) (v359 : FVec Ideal S1x512 .f32) (v363 : FVec Ideal S1x512 .f32) (r : Fin 256) (n : Fin 512) :
    k0_pay41 (F := Ideal) v145 v154 v355 v359 v363 (ix2 r n) = cHalf * lin (fun k => v154 (ix2 r k)) (v145 (ix2 r 0)) (fun k => v355 (ix2 k n)) (v359 (ix2 0 n)) (v363 (ix2 0 n)) := by
  pointwise [k0_pay41]
  rw [p40]

theorem p42 (v145 : FVec Ideal S256x1 .f32) (v154 : FVec Ideal S256x1920 .fp8e4m3) (v355 : FVec Ideal S1920x512 .fp8e4m3) (v359 : FVec Ideal S1x512 .f32) (v363 : FVec Ideal S1x512 .f32) (r : Fin 256) (n : Fin 512) :
    k0_pay42 (F := Ideal) v145 v154 v355 v359 v363 (ix2 r n) = cHalf * lin (fun k => v154 (ix2 r k)) (v145 (ix2 r 0)) (fun k => v355 (ix2 k n)) (v359 (ix2 0 n)) (v363 (ix2 0 n)) * Ideal.tanh (lin (fun k => v154 (ix2 r k)) (v145 (ix2 r 0)) (fun k => v355 (ix2 k n)) (v359 (ix2 0 n)) (v363 (ix2 0 n)) * (cS + cSC * (lin (fun k => v154 (ix2 r k)) (v145 (ix2 r 0)) (fun k => v355 (ix2 k n)) (v359 (ix2 0 n)) (v363 (ix2 0 n)) * lin (fun k => v154 (ix2 r k)) (v145 (ix2 r 0)) (fun k => v355 (ix2 k n)) (v359 (ix2 0 n)) (v363 (ix2 0 n))))) := by
  pointwise [k0_pay42]
  rw [c_named_c, c_named_c3, p40, p41]

theorem p43 (v375 : FVec Ideal S256x512 .f32) (v376 : FVec Ideal S256x512 .f32) (r : Fin 256) (n : Fin 512) :
    k0_pay43 (F := Ideal) v375 v376 (ix2 r n) = v375 (ix2 r n) + v376 (ix2 r n) := by
  pointwise [k0_pay43]

theorem p44 (v375 : FVec Ideal S256x512 .f32) (v376 : FVec Ideal S256x512 .f32) (r : Fin 256) (n : Fin 512) :
    k0_pay44 (F := Ideal) v375 v376 (ix2 r n) = v375 (ix2 r n) + v376 (ix2 r n) := by
  pointwise [k0_pay44]
  exact p43 _ _ r n

theorem p56 (v145 : FVec Ideal S256x1 .f32) (v154 : FVec Ideal S256x1920 .fp8e4m3) (v507 : FVec Ideal S1920x512 .fp8e4m3) (r : Fin 256) (n : Fin 512) :
    k0_pay56 (F := Ideal) v145 v154 v507 (ix2 r n) = (∑ k, v154 (ix2 r k) * v507 (ix2 k n)) * v145 (ix2 r 0) := by
  pointwise [k0_pay56]

theorem p57 (v510 : FVec Ideal S256x512 .f32) (v511 : FVec Ideal S1x512 .f32) (v515 : FVec Ideal S1x512 .f32) (r : Fin 256) (n : Fin 512) :
    k0_pay57 (F := Ideal) v510 v511 v515 (ix2 r n) = gel (v510 (ix2 r n) * v511 (ix2 0 n) + v515 (ix2 0 n)) := by
  pointwise [k0_pay57]
  rw [c_named_c, c_named_c3]
  exact gel_eq _

theorem p58 (v510 : FVec Ideal S256x512 .f32) (v511 : FVec Ideal S1x512 .f32) (v515 : FVec Ideal S1x512 .f32) (r : Fin 256) (n : Fin 512) :
    k0_pay58 (F := Ideal) v510 v511 v515 (ix2 r n) = gel (v510 (ix2 r n) * v511 (ix2 0 n) + v515 (ix2 0 n)) := by
  pointwise [k0_pay58]
  exact p57 _ _ _ r n

theorem p60 (v145 : FVec Ideal S256x1 .f32) (v154 : FVec Ideal S256x1920 .fp8e4m3) (v545 : FVec Ideal S1920x512 .fp8e4m3) (v549 : FVec Ideal S1x512 .f32) (r : Fin 256) (n : Fin 512) :
    k0_pay60 (F := Ideal) v145 v154 v545 v549 (ix2 r n) = (∑ k, v154 (ix2 r k) * v545 (ix2 k n)) * v145 (ix2 r 0) * v549 (ix2 0 n) := by
  pointwise [k0_pay60]

theorem p61 (v553 : FVec Ideal S1x512 .f32) (n : Fin 512) :
    k0_pay61 (F := Ideal) v553 (ix2 0 n) = v553 (ix2 0 n) := by
  pointwise [k0_pay61]

theorem p62 (v552 : FVec Ideal S256x512 .f32) (v554 : FVec Ideal S1x512 .f32) (r : Fin 256) (n : Fin 512) :
    k0_pay62 (F := Ideal) v552 v554 (ix2 r n) = gel (v552 (ix2 r n) + v554 (ix2 0 n)) := by
  pointwise [k0_pay62]
  rw [c_named_c, c_named_c3]
  exact gel_eq _

theorem p63 (v552 : FVec Ideal S256x512 .f32) (v554 : FVec Ideal S1x512 .f32) (r : Fin 256) (n : Fin 512) :
    k0_pay63 (F := Ideal) v552 v554 (ix2 r n) = gel (v552 (ix2 r n) + v554 (ix2 0 n)) := by
  pointwise [k0_pay63]
  exact p62 _ _ r n

theorem p66 (v145 : FVec Ideal S256x1 .f32) (v154 : FVec Ideal S256x1920 .fp8e4m3) (v583 : FVec Ideal S1920x512 .fp8e4m3) (v587 : FVec Ideal S1x512 .f32) (v591 : FVec Ideal S1x512 .f32) (r : Fin 256) (n : Fin 512) :
    k0_pay66 (F := Ideal) v145 v154 v583 v587 v591 (ix2 r n) = cS + cSC * (lin (fun k => v154 (ix2 r k)) (v145 (ix2 r 0)) (fun k => v583 (ix2 k n)) (v587 (ix2 0 n)) (v591 (ix2 0 n)) * lin (fun k => v154 (ix2 r k)) (v145 (ix2 r 0)) (fun k => v583 (ix2 k n)) (v587 (ix2 0 n)) (v591 (ix2 0 n))) := by
  pointwise [k0_pay66]
  rw [c_named_c, c_named_c3, p65]

theorem p67 (v594 : FVec Ideal S256x512 .f32) (v599 : FVec Ideal S256x512 .f32) (r : Fin 256) (n : Fin 512) :
    k0_pay67 (F := Ideal) v594 v599 (ix2 r n) = cHalf * v594 (ix2 r n) + cHalf * v594 (ix2 r n) * Ideal.tanh (v594 (ix2 r n) * v599 (ix2 r n)) := by
  pointwise [k0_pay67]

theorem p68 (v594 : FVec Ideal S256x512 .f32) (v599 : FVec Ideal S256x512 .f32) (r : Fin 256) (n : Fin 512) :
    k0_pay68 (F := Ideal) v594 v599 (ix2 r n) = cHalf * v594 (ix2 r n) + cHalf * v594 (ix2 r n) * Ideal.tanh (v594 (ix2 r n) * v599 (ix2 r n)) := by
  pointwise [k0_pay68]
  exact p67 _ _ r n

theorem p71 (v643 : FVec Ideal S256x512 .f32) (r : Fin 256) (n : Fin 512) :
    k0_pay71 (F := Ideal) v643 (ix2 r n) = v643 (ix2 r n) := by
  pointwise [k0_pay71]

end Cert.FfnIdeal.Hand

end
-- ==== Proof.FfnPayD.lean ====
/- The kernel's running maximum of magnitudes, 128 columns at a time, read at an index. -/
module

public import proofs.«01_k».proof.Proof.Gen.FfnIdeal.Skeleton
public import proofs.«01_k».proof.Proof.FfnSpec

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (cS cC cSC cN cEps cMax cMin cHalf cBot ab lin gel gel_eq cm amax tsc tcode lnv mean sd)

theorem w22 (Gv : Fin 256 → ℕ → EReal) (v145 : FVec Ideal S256x1 .f32) (v154 : FVec Ideal S256x1920 .fp8e4m3) (v165 : FVec Ideal S1920x512 .fp8e4m3) (v169 : FVec Ideal S1x512 .f32) (v173 : FVec Ideal S1x512 .f32)
    (h0 : ∀ (r : Fin 256) (n : Fin 512), k0_pay20 (F := Ideal) v145 v154 v165 v169 v173 (ix2 r n) = Gv r (0 + n))
    (r : Fin 256) (l : Fin 128) :
    k0_pay22 (F := Ideal) v145 v154 v165 v169 v173 (ix2 r l) = cm (fun i => ab (Gv r (128 * i + l))) 2 := by
  pointwise [k0_pay22]
  simp only [h0, cm, ← Nat.add_assoc, Nat.reduceAdd, Nat.reduceMul, Nat.zero_add]

theorem w23 (Gv : Fin 256 → ℕ → EReal) (v145 : FVec Ideal S256x1 .f32) (v154 : FVec Ideal S256x1920 .fp8e4m3) (v165 : FVec Ideal S1920x512 .fp8e4m3) (v169 : FVec Ideal S1x512 .f32) (v173 : FVec Ideal S1x512 .f32)
    (h0 : ∀ (r : Fin 256) (n : Fin 512), k0_pay20 (F := Ideal) v145 v154 v165 v169 v173 (ix2 r n) = Gv r (0 + n))
    (r : Fin 256) (l : Fin 128) :
    k0_pay23 (F := Ideal) v145 v154 v165 v169 v173 (ix2 r l) = ab (Gv r (256 + l)) := by
  pointwise [k0_pay23]
  simp only [h0, cm, ← Nat.add_assoc, Nat.reduceAdd, Nat.reduceMul, Nat.zero_add]

theorem w26 (Gv : Fin 256 → ℕ → EReal) (v145 : FVec Ideal S256x1 .f32) (v154 : FVec Ideal S256x1920 .fp8e4m3) (v187 : FVec Ideal S256x512 .f32) (v196 : FVec Ideal S256x128 .f32) (v198 : FVec Ideal S256x128 .f32) (v203 : FVec Ideal S1920x512 .fp8e4m3) (v207 : FVec Ideal S1x512 .f32) (v211 : FVec Ideal S1x512 .f32)
    (h0 : ∀ (r : Fin 256) (n : Fin 512), v187 (ix2 r n) = Gv r (0 + n))
    (h1 : ∀ (r : Fin 256) (l : Fin 128), v196 (ix2 r l) = cm (fun i => ab (Gv r (128 * i + l))) 2)
    (h2 : ∀ (r : Fin 256) (l : Fin 128), v198 (ix2 r l) = ab (Gv r (256 + l)))
    (h3 : ∀ (r : Fin 256) (n : Fin 512), k0_pay24 (F := Ideal) v145 v154 v203 v207 v211 (ix2 r n) = Gv r (512 + n))
    (r : Fin 256) (l : Fin 128) :
    k0_pay26 (F := Ideal) v145 v154 v187 v196 v198 v203 v207 v211 (ix2 r l) = cm (fun i => ab (Gv r (128 * i + l))) 8 := by
  pointwise [k0_pay26]
  simp only [h0, h1, h2, h3, cm, ← Nat.add_assoc, Nat.reduceAdd, Nat.reduceMul, Nat.zero_add]

theorem w30 (Gv : Fin 256 → ℕ → EReal) (v145 : FVec Ideal S256x1 .f32) (v240 : FVec Ideal S256x128 .f32) (v242 : FVec Ideal S256x512 .f32) (v245 : FVec Ideal S1x512 .f32) (v249 : FVec Ideal S1x512 .f32)
    (h0 : ∀ (r : Fin 256) (l : Fin 128), v240 (ix2 r l) = cm (fun i => ab (Gv r (128 * i + l))) 8)
    (h1 : ∀ (r : Fin 256) (n : Fin 512), k0_pay28 (F := Ideal) v145 v242 v245 v249 (ix2 r n) = Gv r (1024 + n))
    (r : Fin 256) (l : Fin 128) :
    k0_pay30 (F := Ideal) v145 v240 v242 v245 v249 (ix2 r l) = cm (fun i => ab (Gv r (128 * i + l))) 12 := by
  pointwise [k0_pay30]
  simp only [h0, h1, cm, ← Nat.add_assoc, Nat.reduceAdd, Nat.reduceMul, Nat.zero_add]

theorem w34 (Gv : Fin 256 → ℕ → EReal) (v278 : FVec Ideal S256x128 .f32) (v286 : FVec Ideal S256x512 .f32) (v287 : FVec Ideal S1x512 .f32)
    (h0 : ∀ (r : Fin 256) (l : Fin 128), v278 (ix2 r l) = cm (fun i => ab (Gv r (128 * i + l))) 12)
    (h1 : ∀ (r : Fin 256) (n : Fin 512), k0_pay32 (F := Ideal) v286 v287 (ix2 r n) = Gv r (1536 + n))
    (r : Fin 256) (l : Fin 128) :
    k0_pay34 (F := Ideal) v278 v286 v287 (ix2 r l) = cm (fun i => ab (Gv r (128 * i + l))) 16 := by
  pointwise [k0_pay34]
  simp only [h0, h1, cm, ← Nat.add_assoc, Nat.reduceAdd, Nat.reduceMul, Nat.zero_add]

theorem w39 (Gv : Fin 256 → ℕ → EReal) (v316 : FVec Ideal S256x128 .f32) (v328 : FVec Ideal S256x512 .f32) (v331 : FVec Ideal S256x512 .f32)
    (h0 : ∀ (r : Fin 256) (l : Fin 128), v316 (ix2 r l) = cm (fun i => ab (Gv r (128 * i + l))) 16)
    (h1 : ∀ (r : Fin 256) (n : Fin 512), k0_pay37 (F := Ideal) v328 v331 (ix2 r n) = Gv r (2048 + n))
    (r : Fin 256) (l : Fin 128) :
    k0_pay39 (F := Ideal) v316 v328 v331 (ix2 r l) = cm (fun i => ab (Gv r (128 * i + l))) 20 := by
  pointwise [k0_pay39]
  simp only [h0, h1, cm, ← Nat.add_assoc, Nat.reduceAdd, Nat.reduceMul, Nat.zero_add]

theorem w45 (Gv : Fin 256 → ℕ → EReal) (v354 : FVec Ideal S256x128 .f32) (v375 : FVec Ideal S256x512 .f32) (v376 : FVec Ideal S256x512 .f32)
    (h0 : ∀ (r : Fin 256) (l : Fin 128), v354 (ix2 r l) = cm (fun i => ab (Gv r (128 * i + l))) 20)
    (h1 : ∀ (r : Fin 256) (n : Fin 512), k0_pay43 (F := Ideal) v375 v376 (ix2 r n) = Gv r (2560 + n))
    (r : Fin 256) (l : Fin 128) :
    k0_pay45 (F := Ideal) v354 v375 v376 (ix2 r l) = cm (fun i => ab (Gv r (128 * i + l))) 24 := by
  pointwise [k0_pay45]
  simp only [h0, h1, cm, ← Nat.add_assoc, Nat.reduceAdd, Nat.reduceMul, Nat.zero_add]

theorem w48 (Gv : Fin 256 → ℕ → EReal) (v145 : FVec Ideal S256x1 .f32) (v154 : FVec Ideal S256x1920 .fp8e4m3) (v393 : FVec Ideal S1920x512 .fp8e4m3) (v397 : FVec Ideal S1x512 .f32) (v401 : FVec Ideal S1x512 .f32)
    (h0 : ∀ (r : Fin 256) (n : Fin 512), k0_pay46 (F := Ideal) v145 v154 v393 v397 v401 (ix2 r n) = Gv r (3072 + n))
    (r : Fin 256) (l : Fin 128) :
    k0_pay48 (F := Ideal) v145 v154 v393 v397 v401 (ix2 r l) = ab (Gv r (3072 + l)) := by
  pointwise [k0_pay48]
  simp only [h0, cm, ← Nat.add_assoc, Nat.reduceAdd, Nat.reduceMul, Nat.zero_add]

theorem w51 (Gv : Fin 256 → ℕ → EReal) (v145 : FVec Ideal S256x1 .f32) (v154 : FVec Ideal S256x1920 .fp8e4m3) (v392 : FVec Ideal S256x128 .f32) (v415 : FVec Ideal S256x512 .f32) (v420 : FVec Ideal S256x128 .f32) (v431 : FVec Ideal S1920x512 .fp8e4m3) (v435 : FVec Ideal S1x512 .f32) (v439 : FVec Ideal S1x512 .f32)
    (h0 : ∀ (r : Fin 256) (l : Fin 128), v392 (ix2 r l) = cm (fun i => ab (Gv r (128 * i + l))) 24)
    (h1 : ∀ (r : Fin 256) (n : Fin 512), v415 (ix2 r n) = Gv r (3072 + n))
    (h2 : ∀ (r : Fin 256) (l : Fin 128), v420 (ix2 r l) = ab (Gv r (3072 + l)))
    (h3 : ∀ (r : Fin 256) (n : Fin 512), k0_pay49 (F := Ideal) v145 v154 v431 v435 v439 (ix2 r n) = Gv r (3584 + n))
    (r : Fin 256) (l : Fin 128) :
    k0_pay51 (F := Ideal) v145 v154 v392 v415 v420 v431 v435 v439 (ix2 r l) = cm (fun i => ab (Gv r (128 * i + l))) 31 := by
  pointwise [k0_pay51]
  simp only [h0, h1, h2, h3, cm, ← Nat.add_assoc, Nat.reduceAdd, Nat.reduceMul, Nat.zero_add]

theorem w52 (Gv : Fin 256 → ℕ → EReal) (v145 : FVec Ideal S256x1 .f32) (v154 : FVec Ideal S256x1920 .fp8e4m3) (v431 : FVec Ideal S1920x512 .fp8e4m3) (v435 : FVec Ideal S1x512 .f32) (v439 : FVec Ideal S1x512 .f32)
    (h0 : ∀ (r : Fin 256) (n : Fin 512), k0_pay49 (F := Ideal) v145 v154 v431 v435 v439 (ix2 r n) = Gv r (3584 + n))
    (r : Fin 256) (l : Fin 128) :
    k0_pay52 (F := Ideal) v145 v154 v431 v435 v439 (ix2 r l) = ab (Gv r (3968 + l)) := by
  pointwise [k0_pay52]
  simp only [h0, cm, ← Nat.add_assoc, Nat.reduceAdd, Nat.reduceMul, Nat.zero_add]

theorem w55 (Gv : Fin 256 → ℕ → EReal) (v145 : FVec Ideal S256x1 .f32) (v154 : FVec Ideal S256x1920 .fp8e4m3) (v465 : FVec Ideal S256x128 .f32) (v467 : FVec Ideal S256x128 .f32) (v469 : FVec Ideal S1920x512 .fp8e4m3) (v473 : FVec Ideal S1x512 .f32) (v477 : FVec Ideal S1x512 .f32)
    (h0 : ∀ (r : Fin 256) (l : Fin 128), v465 (ix2 r l) = cm (fun i => ab (Gv r (128 * i + l))) 31)
    (h1 : ∀ (r : Fin 256) (l : Fin 128), v467 (ix2 r l) = ab (Gv r (3968 + l)))
    (h2 : ∀ (r : Fin 256) (n : Fin 512), k0_pay53 (F := Ideal) v145 v154 v469 v473 v477 (ix2 r n) = Gv r (4096 + n))
    (r : Fin 256) (l : Fin 128) :
    k0_pay55 (F := Ideal) v145 v154 v465 v467 v469 v473 v477 (ix2 r l) = cm (fun i => ab (Gv r (128 * i + l))) 36 := by
  pointwise [k0_pay55]
  simp only [h0, h1, h2, cm, ← Nat.add_assoc, Nat.reduceAdd, Nat.reduceMul, Nat.zero_add]

theorem w59 (Gv : Fin 256 → ℕ → EReal) (v506 : FVec Ideal S256x128 .f32) (v510 : FVec Ideal S256x512 .f32) (v511 : FVec Ideal S1x512 .f32) (v515 : FVec Ideal S1x512 .f32)
    (h0 : ∀ (r : Fin 256) (l : Fin 128), v506 (ix2 r l) = cm (fun i => ab (Gv r (128 * i + l))) 36)
    (h1 : ∀ (r : Fin 256) (n : Fin 512), k0_pay57 (F := Ideal) v510 v511 v515 (ix2 r n) = Gv r (4608 + n))
    (r : Fin 256) (l : Fin 128) :
    k0_pay59 (F := Ideal) v506 v510 v511 v515 (ix2 r l) = cm (fun i => ab (Gv r (128 * i + l))) 40 := by
  pointwise [k0_pay59]
  simp only [h0, h1, cm, ← Nat.add_assoc, Nat.reduceAdd, Nat.reduceMul, Nat.zero_add]

theorem w64 (Gv : Fin 256 → ℕ → EReal) (v544 : FVec Ideal S256x128 .f32) (v552 : FVec Ideal S256x512 .f32) (v554 : FVec Ideal S1x512 .f32)
    (h0 : ∀ (r : Fin 256) (l : Fin 128), v544 (ix2 r l) = cm (fun i => ab (Gv r (128 * i + l))) 40)
    (h1 : ∀ (r : Fin 256) (n : Fin 512), k0_pay62 (F := Ideal) v552 v554 (ix2 r n) = Gv r (5120 + n))
    (r : Fin 256) (l : Fin 128) :
    k0_pay64 (F := Ideal) v544 v552 v554 (ix2 r l) = cm (fun i => ab (Gv r (128 * i + l))) 44 := by
  pointwise [k0_pay64]
  simp only [h0, h1, cm, ← Nat.add_assoc, Nat.reduceAdd, Nat.reduceMul, Nat.zero_add]

theorem w69 (Gv : Fin 256 → ℕ → EReal) (v582 : FVec Ideal S256x128 .f32) (v594 : FVec Ideal S256x512 .f32) (v599 : FVec Ideal S256x512 .f32)
    (h0 : ∀ (r : Fin 256) (l : Fin 128), v582 (ix2 r l) = cm (fun i => ab (Gv r (128 * i + l))) 44)
    (h1 : ∀ (r : Fin 256) (n : Fin 512), k0_pay67 (F := Ideal) v594 v599 (ix2 r n) = Gv r (5632 + n))
    (r : Fin 256) (l : Fin 128) :
    k0_pay69 (F := Ideal) v582 v594 v599 (ix2 r l) = cm (fun i => ab (Gv r (128 * i + l))) 48 := by
  pointwise [k0_pay69]
  simp only [h0, h1, cm, ← Nat.add_assoc, Nat.reduceAdd, Nat.reduceMul, Nat.zero_add]

theorem w74 (Gv : Fin 256 → ℕ → EReal) (v145 : FVec Ideal S256x1 .f32) (v154 : FVec Ideal S256x1920 .fp8e4m3) (v620 : FVec Ideal S256x128 .f32) (v643 : FVec Ideal S256x512 .f32) (v659 : FVec Ideal S1920x512 .fp8e4m3) (v663 : FVec Ideal S1x512 .f32) (v667 : FVec Ideal S1x512 .f32)
    (h0 : ∀ (r : Fin 256) (l : Fin 128), v620 (ix2 r l) = cm (fun i => ab (Gv r (128 * i + l))) 48)
    (h1 : ∀ (r : Fin 256) (n : Fin 512), v643 (ix2 r n) = Gv r (6144 + n))
    (h2 : ∀ (r : Fin 256) (n : Fin 512), k0_pay72 (F := Ideal) v145 v154 v659 v663 v667 (ix2 r n) = Gv r (6656 + n))
    (r : Fin 256) (l : Fin 128) :
    k0_pay74 (F := Ideal) v145 v154 v620 v643 v659 v663 v667 (ix2 r l) = cm (fun i => ab (Gv r (128 * i + l))) 53 := by
  pointwise [k0_pay74]
  simp only [h0, h1, h2, cm, ← Nat.add_assoc, Nat.reduceAdd, Nat.reduceMul, Nat.zero_add]

theorem w75 (Gv : Fin 256 → ℕ → EReal) (v145 : FVec Ideal S256x1 .f32) (v154 : FVec Ideal S256x1920 .fp8e4m3) (v659 : FVec Ideal S1920x512 .fp8e4m3) (v663 : FVec Ideal S1x512 .f32) (v667 : FVec Ideal S1x512 .f32)
    (h0 : ∀ (r : Fin 256) (n : Fin 512), k0_pay72 (F := Ideal) v145 v154 v659 v663 v667 (ix2 r n) = Gv r (6656 + n))
    (r : Fin 256) (l : Fin 128) :
    k0_pay75 (F := Ideal) v145 v154 v659 v663 v667 (ix2 r l) = ab (Gv r (6784 + l)) := by
  pointwise [k0_pay75]
  simp only [h0, cm, ← Nat.add_assoc, Nat.reduceAdd, Nat.reduceMul, Nat.zero_add]

theorem w78 (Gv : Fin 256 → ℕ → EReal) (v145 : FVec Ideal S256x1 .f32) (v154 : FVec Ideal S256x1920 .fp8e4m3) (v681 : FVec Ideal S256x512 .f32) (v687 : FVec Ideal S256x128 .f32) (v689 : FVec Ideal S256x128 .f32) (v697 : FVec Ideal S1920x512 .fp8e4m3) (v701 : FVec Ideal S1x512 .f32) (v705 : FVec Ideal S1x512 .f32)
    (h0 : ∀ (r : Fin 256) (n : Fin 512), v681 (ix2 r n) = Gv r (6656 + n))
    (h1 : ∀ (r : Fin 256) (l : Fin 128), v687 (ix2 r l) = cm (fun i => ab (Gv r (128 * i + l))) 53)
    (h2 : ∀ (r : Fin 256) (l : Fin 128), v689 (ix2 r l) = ab (Gv r (6784 + l)))
    (h3 : ∀ (r : Fin 256) (n : Fin 512), k0_pay76 (F := Ideal) v145 v154 v697 v701 v705 (ix2 r n) = Gv r (7168 + n))
    (r : Fin 256) :
    k0_pay78 (F := Ideal) v145 v154 v681 v687 v689 v697 v701 v705 (ix1 r) = Finset.fold max cBot (fun l : Fin 128 => cm (fun i => ab (Gv r (128 * i + l))) 60) Finset.univ := by
  pointwise [k0_pay78]
  simp only [h0, h1, h2, h3, cm, ← Nat.add_assoc, Nat.reduceAdd, Nat.reduceMul, Nat.zero_add]

end Cert.FfnIdeal.Hand

end
-- ==== Proof.FfnPayE.lean ====
/- The kernel's first half of a grid point: the projected residual stream, its layer norm and its codes, read at an index. -/
module

public import proofs.«01_k».proof.Proof.Gen.FfnIdeal.Skeleton
public import proofs.«01_k».proof.Proof.FfnSpec

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (cS cC cSC cN cEps cMax cMin cHalf cBot ab lin gel gel_eq cm amax tsc tcode lnv mean sd)

theorem p1 (v1 : FVec Ideal S1x1x1920 .f32) (n : Fin 1920) :
    k0_pay1 (F := Ideal) v1 (ix2 0 n) = v1 (ix3 0 0 n) := by
  pointwise [k0_pay1]

theorem p2 (v4 : FVec Ideal S1x1x1920 .f32) (n : Fin 1920) :
    k0_pay2 (F := Ideal) v4 (ix2 0 n) = v4 (ix3 0 0 n) := by
  pointwise [k0_pay2]

theorem p3 (v7 : FVec Ideal S1x1x1920 .f32) (n : Fin 1920) :
    k0_pay3 (F := Ideal) v7 (ix2 0 n) = v7 (ix3 0 0 n) := by
  pointwise [k0_pay3]

theorem p4 (v10 : FVec Ideal S1x1x1920 .f32) (n : Fin 1920) :
    k0_pay4 (F := Ideal) v10 (ix2 0 n) = v10 (ix3 0 0 n) := by
  pointwise [k0_pay4]

theorem p5 (v13 : FVec Ideal S1x256 .f32) (r : Fin 256) :
    k0_pay5 (F := Ideal) v13 (ix2 r 0) = v13 (ix2 0 r) := by
  pointwise [k0_pay5]

theorem p6 (v18 : FVec Ideal S1x256x1920 .fp8e4m3) (r : Fin 256) (n : Fin 1920) :
    k0_pay6 (F := Ideal) v18 (ix2 r n) = v18 (ix3 0 r n) := by
  pointwise [k0_pay6]

theorem p7 (v13 : FVec Ideal S1x256 .f32) (v18 : FVec Ideal S1x256x1920 .fp8e4m3) (v20 : FVec Ideal S1920x512 .fp8e4m3) (v25 : FVec Ideal S1x512 .f32) (v29 : FVec Ideal S1x512 .f32) (r : Fin 256) (n : Fin 512) :
    k0_pay7 (F := Ideal) v13 v18 v20 v25 v29 (ix2 r n) = lin (fun k => v18 (ix3 0 r k)) (v13 (ix2 0 r)) (fun k => v20 (ix2 k n)) (v25 (ix2 0 n)) (v29 (ix2 0 n)) := by
  pointwise [k0_pay7, lin]
  simp only [p5, p6]

theorem p8 (v33 : FVec Ideal S1x256x512 .bf16) (r : Fin 256) (n : Fin 512) :
    k0_pay8 (F := Ideal) v33 (ix2 r n) = v33 (ix3 0 r n) := by
  pointwise [k0_pay8]

theorem p9 (v1 : FVec Ideal S1x1x1920 .f32) (n : Fin 512) :
    k0_pay9 (F := Ideal) v1 (ix2 0 n) = v1 (ix3 0 0 ⟨n.val, by omega⟩) := by
  pointwise [k0_pay9]
  exact p1 _ _

theorem p10 (v32 : FVec Ideal S256x512 .f32) (v35 : FVec Ideal S256x512 .f32) (v36 : FVec Ideal S1x512 .f32) (r : Fin 256) (n : Fin 512) :
    k0_pay10 (F := Ideal) v32 v35 v36 (ix2 r n) = v35 (ix2 r n) + v36 (ix2 0 n) * v32 (ix2 r n) := by
  pointwise [k0_pay10]

theorem p11 (v2 : FVec Ideal S1x1920 .f32) (v17 : FVec Ideal S256x1 .f32) (v19 : FVec Ideal S256x1920 .fp8e4m3) (v43 : FVec Ideal S1920x512 .fp8e4m3) (v48 : FVec Ideal S1x512 .f32) (v52 : FVec Ideal S1x512 .f32) (v56 : FVec Ideal S1x256x512 .bf16) (r : Fin 256) (n : Fin 512) :
    k0_pay11 (F := Ideal) v2 v17 v19 v43 v48 v52 v56 (ix2 r n) = v56 (ix3 0 r n) + v2 (ix2 0 ⟨512 + n.val, by omega⟩) * lin (fun k => v19 (ix2 r k)) (v17 (ix2 r 0)) (fun k => v43 (ix2 k n)) (v48 (ix2 0 n)) (v52 (ix2 0 n)) := by
  pointwise [k0_pay11, lin]

theorem p12 (v17 : FVec Ideal S256x1 .f32) (v19 : FVec Ideal S256x1920 .fp8e4m3) (v66 : FVec Ideal S1920x512 .fp8e4m3) (v71 : FVec Ideal S1x512 .f32) (r : Fin 256) (n : Fin 512) :
    k0_pay12 (F := Ideal) v17 v19 v66 v71 (ix2 r n) = (∑ k, v19 (ix2 r k) * v66 (ix2 k n)) * v17 (ix2 r 0) * v71 (ix2 0 n) := by
  pointwise [k0_pay12]

theorem p13 (v2 : FVec Ideal S1x1920 .f32) (v74 : FVec Ideal S256x512 .f32) (v75 : FVec Ideal S1x512 .f32) (v79 : FVec Ideal S1x256x512 .bf16) (r : Fin 256) (n : Fin 512) :
    k0_pay13 (F := Ideal) v2 v74 v75 v79 (ix2 r n) = v79 (ix3 0 r n) + v2 (ix2 0 ⟨1024 + n.val, by omega⟩) * (v74 (ix2 r n) + v75 (ix2 0 n)) := by
  pointwise [k0_pay13]

theorem p14 (v2 : FVec Ideal S1x1920 .f32) (v17 : FVec Ideal S256x1 .f32) (v19 : FVec Ideal S256x1920 .fp8e4m3) (v89 : FVec Ideal S1920x384 .fp8e4m3) (v94 : FVec Ideal S1x384 .f32) (v98 : FVec Ideal S1x384 .f32) (v102 : FVec Ideal S1x256x384 .bf16) (r : Fin 256) (n : Fin 384) :
    k0_pay14 (F := Ideal) v2 v17 v19 v89 v94 v98 v102 (ix2 r n) = v102 (ix3 0 r n) + v2 (ix2 0 ⟨1536 + n.val, by omega⟩) * lin (fun k => v19 (ix2 r k)) (v17 (ix2 r 0)) (fun k => v89 (ix2 k n)) (v94 (ix2 0 n)) (v98 (ix2 0 n)) := by
  pointwise [k0_pay14, lin]

theorem p15 (v8 : FVec Ideal S1x1920 .f32) (v11 : FVec Ideal S1x1920 .f32) (v112 : FVec Ideal S256x1920 .f32) (r : Fin 256) (n : Fin 1920) :
    k0_pay15 (F := Ideal) v8 v11 v112 (ix2 r n) = lnv (fun n => v112 (ix2 r n)) (fun n => v8 (ix2 0 n)) (fun n => v11 (ix2 0 n)) n := by
  pointwise [k0_pay15]
  rw [lnv, ← Cert.FfnSpec.mul_div_one (Cert.FfnSpec.sd_ne _)]
  rfl

theorem p16 (v8 : FVec Ideal S1x1920 .f32) (v11 : FVec Ideal S1x1920 .f32) (v112 : FVec Ideal S256x1920 .f32) (r : Fin 256) :
    k0_pay16 (F := Ideal) v8 v11 v112 (ix2 r 0) = tsc (amax (lnv (fun n => v112 (ix2 r n)) (fun n => v8 (ix2 0 n)) (fun n => v11 (ix2 0 n)))) := by
  pointwise [k0_pay16]
  simp only [p15]
  rfl

theorem p17 (v8 : FVec Ideal S1x1920 .f32) (v11 : FVec Ideal S1x1920 .f32) (v112 : FVec Ideal S256x1920 .f32) (r : Fin 256) (n : Fin 1920) :
    k0_pay17 (F := Ideal) v8 v11 v112 (ix2 r n) = tcode (lnv (fun n => v112 (ix2 r n)) (fun n => v8 (ix2 0 n)) (fun n => v11 (ix2 0 n)) n) (tsc (amax (lnv (fun n => v112 (ix2 r n)) (fun n => v8 (ix2 0 n)) (fun n => v11 (ix2 0 n))))) := by
  pointwise [k0_pay17]
  rw [p15, p16, Cert.FfnSpec.mul_div_one (Cert.FfnSpec.tsc_ne _)]
  rfl

theorem p18 (v154 : FVec Ideal S256x1920 .fp8e4m3) (r : Fin 256) (n : Fin 1920) :
    k0_pay18 (F := Ideal) v154 (ix3 0 r n) = v154 (ix2 r n) := by
  pointwise [k0_pay18]

theorem p19 (v145 : FVec Ideal S256x1 .f32) (r : Fin 256) :
    k0_pay19 (F := Ideal) v145 (ix2 0 r) = v145 (ix2 r 0) := by
  pointwise [k0_pay19]

end Cert.FfnIdeal.Hand

end
-- ==== Proof.FfnPayF.lean ====
/- The kernel's second half of a grid point: the hidden layer's codes and the second linear layer, read at an index. -/
module

public import proofs.«01_k».proof.Proof.Gen.FfnIdeal.Skeleton
public import proofs.«01_k».proof.Proof.FfnSpec

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (cS cC cSC cN cEps cMax cMin cHalf cBot ab lin gel gel_eq cm amax tsc tcode lnv mean sd)

theorem p79 (v735 : FVec Ideal S256 .f32) (r : Fin 256) :
    k0_pay79 (F := Ideal) v735 (ix2 r 0) = tsc (v735 (ix1 r)) := by
  pointwise [k0_pay79]
  rfl

theorem p80 (v735 : FVec Ideal S256 .f32) (r : Fin 256) :
    k0_pay80 (F := Ideal) v735 (ix2 0 r) = tsc (v735 (ix1 r)) := by
  pointwise [k0_pay80]
  exact p79 _ r

theorem p81 (v735 : FVec Ideal S256 .f32) (v749 : FVec Ideal S256x7680 .f32) (r : Fin 256) (n : Fin 7680) :
    k0_pay81 (F := Ideal) v735 v749 (ix3 0 r n) = tcode (v749 (ix2 r n)) (tsc (v735 (ix1 r))) := by
  pointwise [k0_pay81]
  rw [p79, Cert.FfnSpec.mul_div_one (Cert.FfnSpec.tsc_ne _)]
  rfl

theorem p82 (v762 : FVec Ideal S1x256x7680 .fp8e4m3) (r : Fin 256) (n : Fin 7680) :
    k0_pay82 (F := Ideal) v762 (ix2 r n) = v762 (ix3 0 r n) := by
  pointwise [k0_pay82]

theorem p83 (v735 : FVec Ideal S256 .f32) (v762 : FVec Ideal S1x256x7680 .fp8e4m3) (v764 : FVec Ideal S7680x512 .fp8e4m3) (v768 : FVec Ideal S1x512 .f32) (r : Fin 256) (n : Fin 512) :
    k0_pay83 (F := Ideal) v735 v762 v764 v768 (ix2 r n) = (∑ k, v762 (ix3 0 r k) * v764 (ix2 k n)) * tsc (v735 (ix1 r)) * v768 (ix2 0 n) := by
  pointwise [k0_pay83]
  simp only [p79, p82]

theorem p84 (v5 : FVec Ideal S1x1920 .f32) (v771 : FVec Ideal S256x512 .f32) (v772 : FVec Ideal S1x512 .f32) (v776 : FVec Ideal S256x512 .f32) (r : Fin 256) (n : Fin 512) :
    k0_pay84 (F := Ideal) v5 v771 v772 v776 (ix3 0 r n) = v776 (ix2 r n) + v5 (ix2 0 ⟨n.val, by omega⟩) * (v771 (ix2 r n) + v772 (ix2 0 n)) := by
  pointwise [k0_pay84]

theorem p85 (v5 : FVec Ideal S1x1920 .f32) (v742 : FVec Ideal S256x1 .f32) (v763 : FVec Ideal S256x7680 .fp8e4m3) (v785 : FVec Ideal S7680x512 .fp8e4m3) (v789 : FVec Ideal S1x512 .f32) (v793 : FVec Ideal S1x512 .f32) (v797 : FVec Ideal S256x512 .f32) (r : Fin 256) (n : Fin 512) :
    k0_pay85 (F := Ideal) v5 v742 v763 v785 v789 v793 v797 (ix3 0 r n) = v797 (ix2 r n) + v5 (ix2 0 ⟨512 + n.val, by omega⟩) * lin (fun k => v763 (ix2 r k)) (v742 (ix2 r 0)) (fun k => v785 (ix2 k n)) (v789 (ix2 0 n)) (v793 (ix2 0 n)) := by
  pointwise [k0_pay85, lin]

theorem p86 (v742 : FVec Ideal S256x1 .f32) (v763 : FVec Ideal S256x7680 .fp8e4m3) (v806 : FVec Ideal S7680x512 .fp8e4m3) (r : Fin 256) (n : Fin 512) :
    k0_pay86 (F := Ideal) v742 v763 v806 (ix2 r n) = (∑ k, v763 (ix2 r k) * v806 (ix2 k n)) * v742 (ix2 r 0) := by
  pointwise [k0_pay86]

theorem p87 (v5 : FVec Ideal S1x1920 .f32) (v809 : FVec Ideal S256x512 .f32) (v810 : FVec Ideal S1x512 .f32) (v814 : FVec Ideal S1x512 .f32) (v818 : FVec Ideal S256x512 .f32) (r : Fin 256) (n : Fin 512) :
    k0_pay87 (F := Ideal) v5 v809 v810 v814 v818 (ix3 0 r n) = v818 (ix2 r n) + v5 (ix2 0 ⟨1024 + n.val, by omega⟩) * (v809 (ix2 r n) * v810 (ix2 0 n) + v814 (ix2 0 n)) := by
  pointwise [k0_pay87]

theorem p88 (v5 : FVec Ideal S1x1920 .f32) (v742 : FVec Ideal S256x1 .f32) (v763 : FVec Ideal S256x7680 .fp8e4m3) (v827 : FVec Ideal S7680x384 .fp8e4m3) (v831 : FVec Ideal S1x384 .f32) (v835 : FVec Ideal S1x384 .f32) (v839 : FVec Ideal S256x384 .f32) (r : Fin 256) (n : Fin 384) :
    k0_pay88 (F := Ideal) v5 v742 v763 v827 v831 v835 v839 (ix3 0 r n) = v839 (ix2 r n) + v5 (ix2 0 ⟨1536 + n.val, by omega⟩) * lin (fun k => v763 (ix2 r k)) (v742 (ix2 r 0)) (fun k => v827 (ix2 k n)) (v831 (ix2 0 n)) (v835 (ix2 0 n)) := by
  pointwise [k0_pay88, lin]

end Cert.FfnIdeal.Hand

end
-- ==== Proof.FfnWords.lean ====
/- The words of one run of the kernel's body are the row's mathematics: the projected stream, its codes, the hidden layer and its largest magnitude. -/
module

public import proofs.«01_k».proof.Proof.FfnPt
public import proofs.«01_k».proof.Proof.FfnPayA1
public import proofs.«01_k».proof.Proof.FfnPayA2
public import proofs.«01_k».proof.Proof.FfnPayC
public import proofs.«01_k».proof.Proof.FfnPayD
public import proofs.«01_k».proof.Proof.FfnPayE
public import proofs.«01_k».proof.Proof.FfnPayF

@[expose] public section

set_option maxRecDepth 16384

noncomputable section

namespace Cert.FfnIdeal.Hand.Pt

open Idealize.ShloMosaic Idealize.ShloMosaic.TcCoe Idealize.SL.Sem
open Cert.FfnIdeal Cert.FfnIdeal.Gen Cert.FfnIdeal.Hand
open Cert.FfnSpec (Row Wts cS cSC cHalf cBot ab lin gel cm amax tsc tcode lnv mid s2 c2 hs hc)

variable (X : Pt)

theorem e0 (n : Fin 1920) : X.r_0 (ix2 0 n) = X.x1 (ix3 0 X.b n) :=
  (p1 _ n).trans (ldr3 (off1 X) _ _ _ _ (by norm_num) X.b.isLt n)
theorem e1 (n : Fin 1920) : X.r_1 (ix2 0 n) = X.x1 (ix3 1 X.b n) :=
  (p2 _ n).trans (ldr3 (off2 X) _ _ _ _ (by norm_num) X.b.isLt n)
theorem e2 (n : Fin 1920) : X.r_2 (ix2 0 n) = X.x1 (ix3 3 X.b n) :=
  (p3 _ n).trans (ldr3 (off3 X) _ _ _ _ (by norm_num) X.b.isLt n)
theorem e3 (n : Fin 1920) : X.r_3 (ix2 0 n) = X.x1 (ix3 5 X.b n) :=
  (p4 _ n).trans (ldr3 (off4 X) _ _ _ _ (by norm_num) X.b.isLt n)
theorem e4 (r : Fin 256) : X.r_4 (ix2 r 0) = X.x3 (ix2 X.b r) :=
  (p5 _ r).trans (ldr (off5 X) _ _ _ _ X.b.isLt r)
theorem e5 (r : Fin 256) (n : Fin 1920) : X.r_5 (ix2 r n) = X.x2 (ix3 0 r n) :=
  (p6 _ r n).trans ((ldc3 _ _ _ _ r n).trans (congrArg (fun k => X.x2 (ix3 0 r k)) (Fin.ext (Nat.zero_add _))))
theorem e6 (r : Fin 256) (n : Fin 512) : X.r_6 (ix2 r n)
    = lin (fun k => X.x2 (ix3 0 r k)) (X.x3 (ix2 X.b r)) (fun k => X.x4 (ix2 k ⟨n.val, by omega⟩)) (X.x5 (ix2 0 ⟨n.val, by omega⟩)) (X.x6 (ix2 0 ⟨n.val, by omega⟩)) := by
  refine (p7 _ _ _ _ _ r n).trans ?_
  rw [ldr (off5 X) _ _ _ _ X.b.isLt]
  simp only [ldc, ldc3, Nat.zero_add]
theorem e7 (r : Fin 256) (n : Fin 512) : X.r_7 (ix2 r n) = X.x0 (ix3 0 r ⟨n.val, by omega⟩) := by
  refine (p8 _ r n).trans ?_
  simp only [ldc3, Nat.zero_add]
theorem e8 (n : Fin 512) : X.r_8 (ix2 0 n) = X.x1 (ix3 0 X.b ⟨n.val, by omega⟩) :=
  (p9 _ n).trans (ldr3 (off1 X) _ _ _ _ (by norm_num) X.b.isLt _)
theorem e9 (r : Fin 256) (n : Fin 512) : X.r_9 (ix2 r n)
    = (∑ k, X.x2 (ix3 0 r k) * X.x4 (ix2 k ⟨1024 + n.val, by omega⟩)) * X.x3 (ix2 X.b r) * X.x5 (ix2 0 ⟨1024 + n.val, by omega⟩) := by
  refine (p12 _ _ _ _ r n).trans ?_
  simp only [ldc, e4, e5]

/-- What the first scratch buffer holds: the residual stream after the projection. -/
theorem mid_at (r : Fin 256) (n : Fin 1920) : View.canon X.HS0_4 (ix2 r n) = mid (X.row r) X.wts n := by
  unfold Pt.HS0_4 ffnRun.sl.HS0_4
  canon_tiles x h using View.cover_of_tiledBy _ ![256, 128] (by sl_kernel_rfl) _
  case piece0 =>
    idx_vars x
    obtain rfl : r = x0 := Fin.ext h0
    refine Eq.trans ?_ (congrArg (mid (X.row r) X.wts) (Fin.ext h1.symm : (⟨1536 + x1.val, by omega⟩ : Fin 1920) = n))
    refine (p14 _ _ _ _ _ _ _  r x1).trans ?_
    simp only [e0, e4, e5, e6, e7, e8, e9, ldc, ldc3]
    rfl
  case piece1 =>
    idx_vars x
    obtain rfl : r = x0 := Fin.ext h0
    refine Eq.trans ?_ (congrArg (mid (X.row r) X.wts) (Fin.ext h1.symm : (⟨1024 + x1.val, by omega⟩ : Fin 1920) = n))
    refine (p13 _ _ _ _  r x1).trans ?_
    simp only [e0, e4, e5, e6, e7, e8, e9, ldc, ldc3]
    rfl
  case piece2 =>
    idx_vars x
    obtain rfl : r = x0 := Fin.ext h0
    refine Eq.trans ?_ (congrArg (mid (X.row r) X.wts) (Fin.ext h1.symm : (⟨512 + x1.val, by omega⟩ : Fin 1920) = n))
    refine (p11 _ _ _ _ _ _ _  r x1).trans ?_
    simp only [e0, e4, e5, e6, e7, e8, e9, ldc, ldc3]
    rfl
  case piece3 =>
    idx_vars x
    obtain rfl : r = x0 := Fin.ext h0
    refine Eq.trans ?_ (congrArg (mid (X.row r) X.wts) (Fin.ext h1.symm : (⟨x1.val, by omega⟩ : Fin 1920) = n))
    refine (p10 _ _ _  r x1).trans ?_
    simp only [e0, e4, e5, e6, e7, e8, e9, ldc, ldc3]
    rfl
theorem ev (r : Fin 256) (n : Fin 1920) : X.v0 (ix2 r n) = mid (X.row r) X.wts n :=
  (rdc _ _ _ r n).trans ((X.mid_at r _).trans (congrArg (mid (X.row r) X.wts) (Fin.ext (Nat.zero_add _))))
theorem ev776 (r : Fin 256) (n : Fin 512) : X.v776 (ix2 r n) = mid (X.row r) X.wts ⟨0 + n.val, by omega⟩ :=
  (rdc _ _ _ r n).trans (X.mid_at r _)
theorem ev797 (r : Fin 256) (n : Fin 512) : X.v797 (ix2 r n) = mid (X.row r) X.wts ⟨512 + n.val, by omega⟩ :=
  (rdc _ _ _ r n).trans (X.mid_at r _)
theorem ev818 (r : Fin 256) (n : Fin 512) : X.v818 (ix2 r n) = mid (X.row r) X.wts ⟨1024 + n.val, by omega⟩ :=
  (rdc _ _ _ r n).trans (X.mid_at r _)
theorem ev839 (r : Fin 256) (n : Fin 384) : X.v839 (ix2 r n) = mid (X.row r) X.wts ⟨1536 + n.val, by omega⟩ :=
  (rdc _ _ _ r n).trans (X.mid_at r _)
/-- The row's scale and its codes. -/
theorem e10 (r : Fin 256) : X.r_10 (ix2 r 0) = s2 (X.row r) X.wts := by
  refine (p16 _ _ _ r).trans ?_
  simp only [e2, e3, ev]
  rfl
theorem e11 (r : Fin 256) (n : Fin 1920) : X.r_11 (ix2 r n) = c2 (X.row r) X.wts n := by
  refine (p17 _ _ _ r n).trans ?_
  simp only [e2, e3, ev]
  rfl

theorem e13 (r : Fin 256) (n : Fin 512) : X.r_13 (ix2 r n) = X.gN r (0 + n) := by
  refine (p20 _ _ _ _ _ r n).trans ?_
  simp only [e10, e11, ldc]
  exact congrArg gel (X.pre_eq r _ _)
theorem e27 (r : Fin 256) (n : Fin 512) : X.r_27 (ix2 r n) = X.gN r (3072 + n) := by
  refine (p46 _ _ _ _ _ r n).trans ?_
  simp only [e10, e11, ldc]
  exact congrArg gel (X.pre_eq r _ _)
theorem e40 (r : Fin 256) (n : Fin 512) : X.r_40 (ix2 r n) = X.gN r (6144 + n) := by
  refine (p70 _ _ _ _ _ r n).trans ?_
  simp only [e10, e11, ldc]
  exact congrArg gel (X.pre_eq r _ _)
theorem e41 (r : Fin 256) (n : Fin 512) : X.r_41 (ix2 r n) = X.gN r (6656 + n) := by
  refine (p72 _ _ _ _ _ r n).trans ?_
  simp only [e10, e11, ldc]
  exact congrArg gel (X.pre_eq r _ _)
theorem e21 (r : Fin 256) (n : Fin 512) : X.r_21 (ix2 r n) = X.pre r (2048 + n) := by
  refine (p35 _ _ _ _ _ r n).trans ?_
  simp only [e10, e11, ldc]
  exact X.pre_eq r _ _
theorem e37 (r : Fin 256) (n : Fin 512) : X.r_37 (ix2 r n) = X.pre r (5632 + n) := by
  refine (p65 _ _ _ _ _ r n).trans ?_
  simp only [e10, e11, ldc]
  exact X.pre_eq r _ _
theorem e22 (r : Fin 256) (n : Fin 512) : X.r_22 (ix2 r n) = cSC * (X.pre r (2048 + n) * X.pre r (2048 + n)) := by
  refine (p36 _ _ _ _ _ r n).trans ?_
  simp only [e10, e11, ldc, X.pre_eq]
theorem e24 (r : Fin 256) (n : Fin 512) : X.r_24 (ix2 r n) = cHalf * X.pre r (2560 + n) := by
  refine (p41 _ _ _ _ _ r n).trans ?_
  simp only [e10, e11, ldc, X.pre_eq]
theorem e25 (r : Fin 256) (n : Fin 512) : X.r_25 (ix2 r n) = cHalf * X.pre r (2560 + n) * Ideal.tanh (X.pre r (2560 + n) * (cS + cSC * (X.pre r (2560 + n) * X.pre r (2560 + n)))) := by
  refine (p42 _ _ _ _ _ r n).trans ?_
  simp only [e10, e11, ldc, X.pre_eq]
theorem e38 (r : Fin 256) (n : Fin 512) : X.r_38 (ix2 r n) = cS + cSC * (X.pre r (5632 + n) * X.pre r (5632 + n)) := by
  refine (p66 _ _ _ _ _ r n).trans ?_
  simp only [e10, e11, ldc, X.pre_eq]
theorem e17 (r : Fin 256) (n : Fin 512) : X.r_17 (ix2 r n) = (∑ k, c2 (X.row r) X.wts k * X.x7 (ix2 k ⟨1024 + n.val, by omega⟩)) := by
  refine (p27 _ _ r n).trans ?_
  simp only [e10, e11, ldc]
theorem e19 (r : Fin 256) (n : Fin 512) : X.r_19 (ix2 r n) = (∑ k, c2 (X.row r) X.wts k * X.x7 (ix2 k ⟨1536 + n.val, by omega⟩)) * s2 (X.row r) X.wts * X.x8 (ix2 0 ⟨1536 + n.val, by omega⟩) := by
  refine (p31 _ _ _ _ r n).trans ?_
  simp only [e10, e11, ldc]
theorem e32 (r : Fin 256) (n : Fin 512) : X.r_32 (ix2 r n) = (∑ k, c2 (X.row r) X.wts k * X.x7 (ix2 k ⟨4608 + n.val, by omega⟩)) * s2 (X.row r) X.wts := by
  refine (p56 _ _ _ r n).trans ?_
  simp only [e10, e11, ldc]
theorem e34 (r : Fin 256) (n : Fin 512) : X.r_34 (ix2 r n) = (∑ k, c2 (X.row r) X.wts k * X.x7 (ix2 k ⟨5120 + n.val, by omega⟩)) * s2 (X.row r) X.wts * X.x8 (ix2 0 ⟨5120 + n.val, by omega⟩) := by
  refine (p60 _ _ _ _ r n).trans ?_
  simp only [e10, e11, ldc]
theorem e35 (n : Fin 512) : X.r_35 (ix2 0 n) = X.x9 (ix2 0 ⟨5120 + n.val, by omega⟩) := by
  refine (p61 _ n).trans ?_
  simp only [ldc]

/-- The running maximum, 128 columns at a time. -/
theorem e14 (r : Fin 256) (l : Fin 128) : X.r_14 (ix2 r l) = cm (fun i => ab (X.gN r (128 * i + l))) 2 := by
  refine w22 X.gN _ _ _ _ _ ?_ r l
  intro r n
  refine (p20 _ _ _ _ _ r n).trans ?_
  simp only [e10, e11, e17, e19, e21, e22, e24, e25, e32, e34, e35, e37, e38, e40, ldc]
  exact congrArg gel (X.pre_eq r _ _)
theorem e15 (r : Fin 256) (l : Fin 128) : X.r_15 (ix2 r l) = ab (X.gN r (256 + l)) := by
  refine w23 X.gN _ _ _ _ _ ?_ r l
  intro r n
  refine (p20 _ _ _ _ _ r n).trans ?_
  simp only [e10, e11, e17, e19, e21, e22, e24, e25, e32, e34, e35, e37, e38, e40, ldc]
  exact congrArg gel (X.pre_eq r _ _)
theorem e16 (r : Fin 256) (l : Fin 128) : X.r_16 (ix2 r l) = cm (fun i => ab (X.gN r (128 * i + l))) 8 := by
  refine w26 X.gN _ _ _ _ _ _ _ _ X.e13 X.e14 X.e15 ?_ r l
  intro r n
  refine (p24 _ _ _ _ _ r n).trans ?_
  simp only [e10, e11, e17, e19, e21, e22, e24, e25, e32, e34, e35, e37, e38, e40, ldc]
  exact congrArg gel (X.pre_eq r _ _)
theorem e18 (r : Fin 256) (l : Fin 128) : X.r_18 (ix2 r l) = cm (fun i => ab (X.gN r (128 * i + l))) 12 := by
  refine w30 X.gN _ _ _ _ _ X.e16 ?_ r l
  intro r n
  refine (p28 _ _ _ _ r n).trans ?_
  simp only [e10, e11, e17, e19, e21, e22, e24, e25, e32, e34, e35, e37, e38, e40, ldc]
  exact congrArg gel (X.pre_eq r _ _)
theorem e20 (r : Fin 256) (l : Fin 128) : X.r_20 (ix2 r l) = cm (fun i => ab (X.gN r (128 * i + l))) 16 := by
  refine w34 X.gN _ _ _ X.e18 ?_ r l
  intro r n
  refine (p32 _ _ r n).trans ?_
  simp only [e10, e11, e17, e19, e21, e22, e24, e25, e32, e34, e35, e37, e38, e40, ldc]
  exact congrArg gel (X.pre_eq r _ _)
theorem e23 (r : Fin 256) (l : Fin 128) : X.r_23 (ix2 r l) = cm (fun i => ab (X.gN r (128 * i + l))) 20 := by
  refine w39 X.gN _ _ _ X.e20 ?_ r l
  intro r n
  refine (p37 _ _ r n).trans ?_
  simp only [e10, e11, e17, e19, e21, e22, e24, e25, e32, e34, e35, e37, e38, e40, ldc]
  exact Cert.FfnSpec.gel_eq _
theorem e26 (r : Fin 256) (l : Fin 128) : X.r_26 (ix2 r l) = cm (fun i => ab (X.gN r (128 * i + l))) 24 := by
  refine w45 X.gN _ _ _ X.e23 ?_ r l
  intro r n
  refine (p43 _ _ r n).trans ?_
  simp only [e10, e11, e17, e19, e21, e22, e24, e25, e32, e34, e35, e37, e38, e40, ldc]
  exact Cert.FfnSpec.gel_eq _
theorem e28 (r : Fin 256) (l : Fin 128) : X.r_28 (ix2 r l) = ab (X.gN r (3072 + l)) := by
  refine w48 X.gN _ _ _ _ _ ?_ r l
  intro r n
  refine (p46 _ _ _ _ _ r n).trans ?_
  simp only [e10, e11, e17, e19, e21, e22, e24, e25, e32, e34, e35, e37, e38, e40, ldc]
  exact congrArg gel (X.pre_eq r _ _)
theorem e29 (r : Fin 256) (l : Fin 128) : X.r_29 (ix2 r l) = cm (fun i => ab (X.gN r (128 * i + l))) 31 := by
  refine w51 X.gN _ _ _ _ _ _ _ _ X.e26 X.e27 X.e28 ?_ r l
  intro r n
  refine (p49 _ _ _ _ _ r n).trans ?_
  simp only [e10, e11, e17, e19, e21, e22, e24, e25, e32, e34, e35, e37, e38, e40, ldc]
  exact congrArg gel (X.pre_eq r _ _)
theorem e30 (r : Fin 256) (l : Fin 128) : X.r_30 (ix2 r l) = ab (X.gN r (3968 + l)) := by
  refine w52 X.gN _ _ _ _ _ ?_ r l
  intro r n
  refine (p49 _ _ _ _ _ r n).trans ?_
  simp only [e10, e11, e17, e19, e21, e22, e24, e25, e32, e34, e35, e37, e38, e40, ldc]
  exact congrArg gel (X.pre_eq r _ _)
theorem e31 (r : Fin 256) (l : Fin 128) : X.r_31 (ix2 r l) = cm (fun i => ab (X.gN r (128 * i + l))) 36 := by
  refine w55 X.gN _ _ _ _ _ _ _ X.e29 X.e30 ?_ r l
  intro r n
  refine (p53 _ _ _ _ _ r n).trans ?_
  simp only [e10, e11, e17, e19, e21, e22, e24, e25, e32, e34, e35, e37, e38, e40, ldc]
  exact congrArg gel (X.pre_eq r _ _)
theorem e33 (r : Fin 256) (l : Fin 128) : X.r_33 (ix2 r l) = cm (fun i => ab (X.gN r (128 * i + l))) 40 := by
  refine w59 X.gN _ _ _ _ X.e31 ?_ r l
  intro r n
  refine (p57 _ _ _ r n).trans ?_
  simp only [e10, e11, e17, e19, e21, e22, e24, e25, e32, e34, e35, e37, e38, e40, ldc]
  exact congrArg gel (X.pre_eq r _ _)
theorem e36 (r : Fin 256) (l : Fin 128) : X.r_36 (ix2 r l) = cm (fun i => ab (X.gN r (128 * i + l))) 44 := by
  refine w64 X.gN _ _ _ X.e33 ?_ r l
  intro r n
  refine (p62 _ _ r n).trans ?_
  simp only [e10, e11, e17, e19, e21, e22, e24, e25, e32, e34, e35, e37, e38, e40, ldc]
  exact congrArg gel (X.pre_eq r _ _)
theorem e39 (r : Fin 256) (l : Fin 128) : X.r_39 (ix2 r l) = cm (fun i => ab (X.gN r (128 * i + l))) 48 := by
  refine w69 X.gN _ _ _ X.e36 ?_ r l
  intro r n
  refine (p67 _ _ r n).trans ?_
  simp only [e10, e11, e17, e19, e21, e22, e24, e25, e32, e34, e35, e37, e38, e40, ldc]
  exact Cert.FfnSpec.gel_eq _
theorem e42 (r : Fin 256) (l : Fin 128) : X.r_42 (ix2 r l) = cm (fun i => ab (X.gN r (128 * i + l))) 53 := by
  refine w74 X.gN _ _ _ _ _ _ _ X.e39 X.e40 ?_ r l
  intro r n
  refine (p72 _ _ _ _ _ r n).trans ?_
  simp only [e10, e11, e17, e19, e21, e22, e24, e25, e32, e34, e35, e37, e38, e40, ldc]
  exact congrArg gel (X.pre_eq r _ _)
theorem e43 (r : Fin 256) (l : Fin 128) : X.r_43 (ix2 r l) = ab (X.gN r (6784 + l)) := by
  refine w75 X.gN _ _ _ _ _ ?_ r l
  intro r n
  refine (p72 _ _ _ _ _ r n).trans ?_
  simp only [e10, e11, e17, e19, e21, e22, e24, e25, e32, e34, e35, e37, e38, e40, ldc]
  exact congrArg gel (X.pre_eq r _ _)
theorem e44 (r : Fin 256) : X.r_44 (ix1 r) = amax (Cert.FfnSpec.g (X.row r) X.wts) := by
  refine (w78 X.gN _ _ _ _ _ _ _ _ X.e41 X.e42 X.e43 ?_ r).trans ?_
  · intro r n
    refine (p76 _ _ _ _ _ r n).trans ?_
    simp only [e10, e11, e17, e19, e21, e22, e24, e25, e32, e34, e35, e37, e38, e40, ldc]
    exact congrArg gel (X.pre_eq r _ _)
  · rw [Cert.FfnSpec.amax_chunks (K := 7680) (by norm_num) (by norm_num)]
    simp only [gN_eq]

/-- What the second scratch buffer holds: the hidden layer. -/
theorem gelu_at (r : Fin 256) (n : Fin 7680) : View.canon X.HS1_15 (ix2 r n) = X.gN r n := by
  unfold Pt.HS1_15 ffnRun.sl.HS1_15
  canon_tiles x h
  case piece0 =>
    idx_vars x
    obtain rfl : r = x0 := Fin.ext h0
    refine Eq.trans ?_ (congrArg (X.gN r) h1.symm)
    refine (p77 _ _ _ _ _ r x1).trans ?_
    simp only [e10, e11, e17, e19, e21, e22, e24, e25, e32, e34, e35, e37, e38, e40, ldc]
    exact congrArg gel (X.pre_eq r _ _)
  case piece1 =>
    idx_vars x
    obtain rfl : r = x0 := Fin.ext h0
    refine Eq.trans ?_ (congrArg (X.gN r) h1.symm)
    refine (p73 _ _ _ _ _ r x1).trans ?_
    simp only [e10, e11, e17, e19, e21, e22, e24, e25, e32, e34, e35, e37, e38, e40, ldc]
    exact congrArg gel (X.pre_eq r _ _)
  case piece2 =>
    idx_vars x
    obtain rfl : r = x0 := Fin.ext h0
    refine Eq.trans ?_ (congrArg (X.gN r) h1.symm)
    refine (p71 _ r x1).trans ?_
    simp only [e10, e11, e17, e19, e21, e22, e24, e25, e32, e34, e35, e37, e38, e40, ldc]
  case piece3 =>
    idx_vars x
    obtain rfl : r = x0 := Fin.ext h0
    refine Eq.trans ?_ (congrArg (X.gN r) h1.symm)
    refine (p68 _ _ r x1).trans ?_
    simp only [e10, e11, e17, e19, e21, e22, e24, e25, e32, e34, e35, e37, e38, e40, ldc]
    exact Cert.FfnSpec.gel_eq _
  case piece4 =>
    idx_vars x
    obtain rfl : r = x0 := Fin.ext h0
    refine Eq.trans ?_ (congrArg (X.gN r) h1.symm)
    refine (p63 _ _ r x1).trans ?_
    simp only [e10, e11, e17, e19, e21, e22, e24, e25, e32, e34, e35, e37, e38, e40, ldc]
    exact congrArg gel (X.pre_eq r _ _)
  case piece5 =>
    idx_vars x
    obtain rfl : r = x0 := Fin.ext h0
    refine Eq.trans ?_ (congrArg (X.gN r) h1.symm)
    refine (p58 _ _ _ r x1).trans ?_
    simp only [e10, e11, e17, e19, e21, e22, e24, e25, e32, e34, e35, e37, e38, e40, ldc]
    exact congrArg gel (X.pre_eq r _ _)
  case piece6 =>
    idx_vars x
    obtain rfl : r = x0 := Fin.ext h0
    refine Eq.trans ?_ (congrArg (X.gN r) h1.symm)
    refine (p54 _ _ _ _ _ r x1).trans ?_
    simp only [e10, e11, e17, e19, e21, e22, e24, e25, e32, e34, e35, e37, e38, e40, ldc]
    exact congrArg gel (X.pre_eq r _ _)
  case piece7 =>
    idx_vars x
    obtain rfl : r = x0 := Fin.ext h0
    refine Eq.trans ?_ (congrArg (X.gN r) h1.symm)
    refine (p50 _ _ _ _ _ r x1).trans ?_
    simp only [e10, e11, e17, e19, e21, e22, e24, e25, e32, e34, e35, e37, e38, e40, ldc]
    exact congrArg gel (X.pre_eq r _ _)
  case piece8 =>
    idx_vars x
    obtain rfl : r = x0 := Fin.ext h0
    refine Eq.trans ?_ (congrArg (X.gN r) h1.symm)
    refine (p47 _ _ _ _ _ r x1).trans ?_
    simp only [e10, e11, e17, e19, e21, e22, e24, e25, e32, e34, e35, e37, e38, e40, ldc]
    exact congrArg gel (X.pre_eq r _ _)
  case piece9 =>
    idx_vars x
    obtain rfl : r = x0 := Fin.ext h0
    refine Eq.trans ?_ (congrArg (X.gN r) h1.symm)
    refine (p44 _ _ r x1).trans ?_
    simp only [e10, e11, e17, e19, e21, e22, e24, e25, e32, e34, e35, e37, e38, e40, ldc]
    exact Cert.FfnSpec.gel_eq _
  case piece10 =>
    idx_vars x
    obtain rfl : r = x0 := Fin.ext h0
    refine Eq.trans ?_ (congrArg (X.gN r) h1.symm)
    refine (p38 _ _ r x1).trans ?_
    simp only [e10, e11, e17, e19, e21, e22, e24, e25, e32, e34, e35, e37, e38, e40, ldc]
    exact Cert.FfnSpec.gel_eq _
  case piece11 =>
    idx_vars x
    obtain rfl : r = x0 := Fin.ext h0
    refine Eq.trans ?_ (congrArg (X.gN r) h1.symm)
    refine (p33 _ _ r x1).trans ?_
    simp only [e10, e11, e17, e19, e21, e22, e24, e25, e32, e34, e35, e37, e38, e40, ldc]
    exact congrArg gel (X.pre_eq r _ _)
  case piece12 =>
    idx_vars x
    obtain rfl : r = x0 := Fin.ext h0
    refine Eq.trans ?_ (congrArg (X.gN r) h1.symm)
    refine (p29 _ _ _ _ r x1).trans ?_
    simp only [e10, e11, e17, e19, e21, e22, e24, e25, e32, e34, e35, e37, e38, e40, ldc]
    exact congrArg gel (X.pre_eq r _ _)
  case piece13 =>
    idx_vars x
    obtain rfl : r = x0 := Fin.ext h0
    refine Eq.trans ?_ (congrArg (X.gN r) h1.symm)
    refine (p25 _ _ _ _ _ r x1).trans ?_
    simp only [e10, e11, e17, e19, e21, e22, e24, e25, e32, e34, e35, e37, e38, e40, ldc]
    exact congrArg gel (X.pre_eq r _ _)
  case piece14 =>
    idx_vars x
    obtain rfl : r = x0 := Fin.ext h0
    refine Eq.trans ?_ (congrArg (X.gN r) ((Nat.zero_add _).trans h1.symm))
    refine (p21 _ _ _ _ _ r x1).trans ?_
    simp only [e10, e11, e17, e19, e21, e22, e24, e25, e32, e34, e35, e37, e38, e40, ldc]
    exact congrArg gel (X.pre_eq r _ _)
theorem e749 (r : Fin 256) (n : Fin 7680) : X.v749 (ix2 r n) = Cert.FfnSpec.g (X.row r) X.wts n :=
  (rdc _ _ _ r n).trans ((X.gelu_at r _).trans ((congrArg (X.gN r) (Nat.zero_add _)).trans (X.gN_eq r n)))

end Cert.FfnIdeal.Hand.Pt

end
-- ==== Proof.FfnBody.lean ====
/- The proof data of the kernel's grid, its body obligation, its launch and its frame. -/
module

public import proofs.«01_k».proof.Proof.FfnRun
public import Idealize.ShloMosaic.Lib.Claim
public import Idealize.ShloMosaic.Lib.Pipeline.DatRel
public import Idealize.ShloMosaic.Lib.Pointwise

@[expose] public section

-- membership in a rectangle of production extents (`View.cover_of_tiled`): the elaborator's structural look
-- recurses once per coordinate of the long axes
set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 13, through which its contents are stated (`View.read_writes_of_cover`: the
    choice does not matter). -/
abbrev VO0_13 : View sig .tc .vmem S1x256x1920 .bf16 := (Memref.whole cc0_stg13_0 : Memref sig .tc .vmem S1x256x1920 .bf16).view
/-- One staging buffer of output window 14, through which its contents are stated (`View.read_writes_of_cover`: the
    choice does not matter). -/
abbrev VO0_14 : View sig .tc .vmem S1x256x1920 .fp8e4m3 := (Memref.whole cc0_stg14_0 : Memref sig .tc .vmem S1x256x1920 .fp8e4m3).view
/-- One staging buffer of output window 15, through which its contents are stated (`View.read_writes_of_cover`: the
    choice does not matter). -/
abbrev VO0_15 : View sig .tc .vmem S48x256 .f32 := (Memref.whole cc0_stg15_0 : Memref sig .tc .vmem S48x256 .f32).view
/-- One staging buffer of output window 16, through which its contents are stated (`View.read_writes_of_cover`: the
    choice does not matter). -/
abbrev VO0_16 : View sig .tc .vmem S1x256x7680 .fp8e4m3 := (Memref.whole cc0_stg16_0 : Memref sig .tc .vmem S1x256x7680 .fp8e4m3).view
/-- One staging buffer of output window 17, through which its contents are stated (`View.read_writes_of_cover`: the
    choice does not matter). -/
abbrev VO0_17 : View sig .tc .vmem S48x256 .f32 := (Memref.whole cc0_stg17_0 : Memref sig .tc .vmem S48x256 .f32).view
/-- Each window's current staging memref at point `t`, spelled as the pipeline passes it (`bodyAt0`), and its wholeness. -/
abbrev ms0_0 (t : Fin cfg0.N) : Memref sig .tc .vmem S1x256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1920x1920 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1920 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1920 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1920x7680 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x7680 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x7680 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S7680x1920 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1920 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1920 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1920 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x1920 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S48x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256x7680 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S48x256 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S256x1920 .f32 := Memref.whole cc0_scratch0
abbrev scM0_1 : Memref sig .tc .vmem S256x7680 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The one grid coordinate of point `t` is `t`. -/
theorem coord_val : ∀ t : Fin cfg0.N, (grid0.coords t 0).val = t.val := (by decide +kernel : ∀ t : Fin grid0.N, _)

section
variable {κ : Kind} {sp : Space} (v : View sig κ sp S48x256 .f32) (f : v.ty.Contents (Elt F)) {L : List (View.Piece (Elt F) S48x256 .f32)} {o : ℕ}
  (h : ∃ (off : Fin 2 → ℕ) (inb : ∀ a, off a + S1x256.size a ≤ S48x256.size a) (p : S1x256.Idx → Elt F .f32),
    off = ![o, 0] ∧ L = [⟨Rect.unit (s := S48x256) off S1x256.size inb, p⟩]) (y : S48x256.Idx)
include h
/-- In the stored row a buffer holds the store's value, whatever it held before. -/
theorem row_hit (hy : (y 0).val = o) {κ' : Kind} {sp' : Space} (v' : View sig κ' sp' S48x256 .f32) (f' : v'.ty.Contents (Elt F)) :
    v.read (Elt F) (v.writes (Elt F) f L) y = v'.read (Elt F) (v'.writes (Elt F) f' L) y := by
  obtain ⟨off, inb, p, rfl, rfl⟩ := h
  have hx : ∀ a, (y a).val = (Rect.unit (s := S48x256) ![o, 0] S1x256.size inb).off a
      + (Rect.unit (s := S48x256) ![o, 0] S1x256.size inb).stride a * ((ix2 0 (y 1) : S1x256.Idx) a).val := by
    intro a; fin_cases a
    · show (y 0).val = o + 1 * 0; omega
    · show (y 1).val = 0 + 1 * (y 1).val; omega
  exact (View.read_writes_cons_hit_of_coords v f (Rect.unit (s := S48x256) ![o, 0] S1x256.size inb) p [] (ix2 0 (y 1) : S1x256.Idx) y hx).trans
    (View.read_writes_cons_hit_of_coords v' f' (Rect.unit (s := S48x256) ![o, 0] S1x256.size inb) p [] (ix2 0 (y 1) : S1x256.Idx) y hx).symm

/-- In every other row it keeps what it held. -/
theorem row_miss (hy : (y 0).val ≠ o) : v.read (Elt F) (v.writes (Elt F) f L) y = v.read (Elt F) f y := by
  obtain ⟨off, inb, p, rfl, rfl⟩ := h
  rw [View.read_writes_cons_miss_of_axis v f _ [] y 0 o 1 rfl rfl rfl (by omega)]; rfl
end

/-- The body's run at grid point `t`: at the point's staging buffers and the inputs' blocks. -/
noncomputable def ptRun (c : Dev nD) (t : Fin cfg0.N) := ffnRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The stores of output 0 cover its block. -/
theorem cover13 (c : Dev nD) (t : Fin cfg0.N) (y : S1x256x1920.Idx) : ∃ pc ∈ (ptRun m c t).1, y ∈ pc.1.set :=
  View.cover_of_tiledBy (ptRun m c t).1 ![1, 256, 128] (by sl_kernel_rfl) y

/-- What the run at point `t` leaves in output 0's block, read over junk. -/
noncomputable def out13 (c : Dev nD) (t : Fin cfg0.N) : Vec F S1x256x1920 .bf16 := VO0_13.read (Elt F) (VO0_13.writes (Elt F) VO0_13.junk (ptRun m c t).1)

/-- The stores of output 1 cover its block. -/
theorem cover14 (c : Dev nD) (t : Fin cfg0.N) (y : S1x256x1920.Idx) : ∃ pc ∈ (ptRun m c t).2.1, y ∈ pc.1.set :=
  View.cover_of_tiledL (ptRun m c t).2.1 S1x256x1920.size (by sl_kernel_rfl) y

/-- What the run at point `t` leaves in output 1's block, read over junk. -/
noncomputable def out14 (c : Dev nD) (t : Fin cfg0.N) : Vec F S1x256x1920 .fp8e4m3 := VO0_14.read (Elt F) (VO0_14.writes (Elt F) VO0_14.junk (ptRun m c t).2.1)

/-- The only store of output 2 at point `t` is the row `t` of its block. -/
theorem row15 (c : Dev nD) (t : Fin cfg0.N) : ∃ (off : Fin 2 → ℕ) (inb : ∀ a, off a + S1x256.size a ≤ S48x256.size a) (p : S1x256.Idx → Elt F .f32),
    off = ![t.val, 0] ∧ (ptRun m c t).2.2.1 = [⟨Rect.unit (s := S48x256) off S1x256.size inb, p⟩] :=
  ⟨k0_off5 (grid0.coords t), k0_off5_inb _, _, by rw [k0_off5_eq, coord_val], rfl⟩

/-- What the run at point `t` leaves in output 2's block, read over junk. -/
noncomputable def out15 (c : Dev nD) (t : Fin cfg0.N) : Vec F S48x256 .f32 := VO0_15.read (Elt F) (VO0_15.writes (Elt F) VO0_15.junk (ptRun m c t).2.2.1)

/-- The stores of output 3 cover its block. -/
theorem cover16 (c : Dev nD) (t : Fin cfg0.N) (y : S1x256x7680.Idx) : ∃ pc ∈ (ptRun m c t).2.2.2.1, y ∈ pc.1.set :=
  View.cover_of_tiledL (ptRun m c t).2.2.2.1 S1x256x7680.size (by sl_kernel_rfl) y

/-- What the run at point `t` leaves in output 3's block, read over junk. -/
noncomputable def out16 (c : Dev nD) (t : Fin cfg0.N) : Vec F S1x256x7680 .fp8e4m3 := VO0_16.read (Elt F) (VO0_16.writes (Elt F) VO0_16.junk (ptRun m c t).2.2.2.1)

/-- The only store of output 4 at point `t` is the row `t` of its block. -/
theorem row17 (c : Dev nD) (t : Fin cfg0.N) : ∃ (off : Fin 2 → ℕ) (inb : ∀ a, off a + S1x256.size a ≤ S48x256.size a) (p : S1x256.Idx → Elt F .f32),
    off = ![t.val, 0] ∧ (ptRun m c t).2.2.2.2.1 = [⟨Rect.unit (s := S48x256) off S1x256.size inb, p⟩] :=
  ⟨k0_off5 (grid0.coords t), k0_off5_inb _, _, by rw [k0_off5_eq, coord_val], rfl⟩

/-- What the run at point `t` leaves in output 4's block, read over junk. -/
noncomputable def out17 (c : Dev nD) (t : Fin cfg0.N) : Vec F S48x256 .f32 := VO0_17.read (Elt F) (VO0_17.writes (Elt F) VO0_17.junk (ptRun m c t).2.2.2.2.1)

/-- The two windows whose buffers are filled row by row. -/
def rows : Fin cfg0.W → Bool := fun w => decide (w.val = 15) || decide (w.val = 17)

/-- The proof data: each input's buffer at its block, each blocked output's at what the run leaves. The row outputs'
    buffers are held to `Rel` below instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 m c t
    | ⟨14, _⟩ => out14 m c t
    | ⟨15, _⟩ => out15 m c t
    | ⟨16, _⟩ => out16 m c t
    | ⟨17, _⟩ => out17 m c t
    | ⟨_ + 18, h⟩ => absurd h (Nat.not_lt.2 (Nat.le_add_left _ _))
  Φ _ := Pipeline.ΦA spec0 c
  q _ := fullShare
  owed _ := 0

/-- What a row output's buffer holds after point `t`: in each row up to `t`, what that row's point stored. -/
def Rel (c : Dev nD) (w : Fin cfg0.W) (t : Fin cfg0.N) : ((cfg0.win w).block.Idx → Elt F (cfg0.win w).elt) → Prop :=
  match w with
  | ⟨15, _⟩ => fun X => ∀ (r : Fin cfg0.N) (y : S48x256.Idx), r ≤ t → (y 0).val = r.val → X y = out15 m c r y
  | ⟨17, _⟩ => fun X => ∀ (r : Fin cfg0.N) (y : S48x256.Idx), r ≤ t → (y 0).val = r.val → X y = out17 m c r y
  | _ => fun _ => True

/-- The relational proof data. -/
def rdat (c : Dev nD) := (dats m 0 c).toRRel rows (Rel m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out13 m c t := by dsimp only [dats]
theorem after0_14 (c : Dev nD) (t : Fin cfg0.N) : (dats m 0 c).after 14 t = out14 m c t := by dsimp only [dats]
theorem after0_15 (c : Dev nD) (t : Fin cfg0.N) : (dats m 0 c).after 15 t = out15 m c t := by dsimp only [dats]
theorem after0_16 (c : Dev nD) (t : Fin cfg0.N) : (dats m 0 c).after 16 t = out16 m c t := by dsimp only [dats]
theorem after0_17 (c : Dev nD) (t : Fin cfg0.N) : (dats m 0 c).after 17 t = out17 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body may find in row output 2's buffer: the rows of the points before. -/
theorem found15 (c : Dev nD) (t : Fin cfg0.N) (Y) (h : (rdat m c).Finds 15 t Y) (r : Fin cfg0.N) (y : S48x256.Idx) (hr : r < t)
    (hy : (y 0).val = r.val) : Y y = out15 m c r y := by
  have hN : cfg0.N = 48 := N_0
  have ht : t.val ≠ 0 := by have := hr; rw [Fin.lt_def] at this; omega
  rcases ((rdat m c).finds_of_pos (w := 15) rfl ht Y).mp h with hf | hl
  · exact absurd ((flush0_15 _).mp hf) (by have := t.isLt; show ¬ ((t.val - 1) % 48 = 47); omega)
  · have hR : Rel m c 15 _ Y := (dats m 0 c).toRRel_leaves (by rfl) hl
    exact hR r y (by rw [Fin.lt_def] at hr; show r.val ≤ t.val - 1; omega) hy

/-- With its row stored, row output 2's buffer holds the rows up to `t`. -/
theorem left15 (c : Dev nD) (t : Fin cfg0.N) (Y) (h : (rdat m c).Finds 15 t Y) :
    Rel m c 15 t ((ms0_15 t).view.read (Elt F) ((ms0_15 t).view.writes (Elt F) ((hs0_15 t).unread Y) (ptRun m c t).2.2.1)) := by
  intro r y hr hy
  by_cases e : r = t
  · subst e; exact row_hit _ _ (row15 m c r) y hy _ _
  · rw [row_miss _ _ (row15 m c t) y (by rw [hy]; exact fun h => e (Fin.ext h)), (hs0_15 t).read_unread]
    exact found15 m c t Y h r y (lt_of_le_of_ne hr e) hy

/-- What the body may find in row output 4's buffer: the rows of the points before. -/
theorem found17 (c : Dev nD) (t : Fin cfg0.N) (Y) (h : (rdat m c).Finds 17 t Y) (r : Fin cfg0.N) (y : S48x256.Idx) (hr : r < t)
    (hy : (y 0).val = r.val) : Y y = out17 m c r y := by
  have hN : cfg0.N = 48 := N_0
  have ht : t.val ≠ 0 := by have := hr; rw [Fin.lt_def] at this; omega
  rcases ((rdat m c).finds_of_pos (w := 17) rfl ht Y).mp h with hf | hl
  · exact absurd ((flush0_17 _).mp hf) (by have := t.isLt; show ¬ ((t.val - 1) % 48 = 47); omega)
  · have hR : Rel m c 17 _ Y := (dats m 0 c).toRRel_leaves (by rfl) hl
    exact hR r y (by rw [Fin.lt_def] at hr; show r.val ≤ t.val - 1; omega) hy

/-- With its row stored, row output 4's buffer holds the rows up to `t`. -/
theorem left17 (c : Dev nD) (t : Fin cfg0.N) (Y) (h : (rdat m c).Finds 17 t Y) :
    Rel m c 17 t ((ms0_17 t).view.read (Elt F) ((ms0_17 t).view.writes (Elt F) ((hs0_17 t).unread Y) (ptRun m c t).2.2.2.2.1)) := by
  intro r y hr hy
  by_cases e : r = t
  · subst e; exact row_hit _ _ (row17 m c r) y hy _ _
  · rw [row_miss _ _ (row17 m c t) y (by rw [hy]; exact fun h => e (Fin.ext h)), (hs0_17 t).read_unread]
    exact found17 m c t Y h r y (lt_of_le_of_ne hr e) hy

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ Y, ⌜(rdat m c).Finds 15 t Y⌝ ∗ owns (c : Thread nD τ) (ms0_15 t) fullShare Y)
    ∗ (∃ d, owns (c : Thread nD τ) (ms0_16 t) fullShare ((dats m 0 c).before 16 t d))
    ∗ (∃ Y, ⌜(rdat m c).Finds 17 t Y⌝ ∗ owns (c : Thread nD τ) (ms0_17 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ X, ⌜Rel m c 15 t X⌝ ∗ owns (c : Thread nD τ) (ms0_15 t) fullShare X)
    ∗ owns (c : Thread nD τ) (ms0_16 t) fullShare ((dats m 0 c).after 16 t)
    ∗ (∃ X, ⌜Rel m c 17 t X⌝ ∗ owns (c : Thread nD τ) (ms0_17 t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_16]
  rw [show (dats m 0 c).Φ t.castSucc = Pipeline.ΦA spec0 c from rfl, PhiA0_eq]
  unfold out13 out14 out16
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%Y15, %hY15, H15⟩, ⟨%d16, H16⟩, ⟨%Y17, %hY17, H17⟩⟩
  iapply ((ptRun m c t).2.2.2.2.2.2.2 Set.univ Y15 Y17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexact H15
  isplitl [H16]; · iexists _; iexact H16
  isplitl [H17]; · iexact H17
  isplitl [HS0]; · iexact HS0
  isplitl [HS1]; · iexact HS1
  iintro ⟨H0, H1, H2, H3, H4, H5, H6, H7, H8, H9, H10, H11, H12, ⟨%e13, H13⟩, ⟨%e14, H14⟩, H15, ⟨%e16, H16⟩, H17, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 m c t)
  isplitl [H14]
  · unfold owns; iexists _; isplitr
    swap; · iexact H14
    ipureintro; exact View.read_writes_of_cover _ _ _ _ _ (cover14 m c t)
  isplitl [H15]
  · iexists _; isplitr
    swap
    · unfold owns; iexists _; isplitr
      swap; · iexact H15
      ipureintro; rfl
    ipureintro; exact left15 m c t Y15 hY15
  isplitl [H16]
  · unfold owns; iexists _; isplitr
    swap; · iexact H16
    ipureintro; exact View.read_writes_of_cover _ _ _ _ _ (cover16 m c t)
  iexists _; isplitr
  swap
  · unfold owns; iexists _; isplitr
    swap; · iexact H17
    ipureintro; rfl
  ipureintro; exact left17 m c t Y17 hY17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : Pipeline.BodyObligationRel (dats (F := F) m 0 c) (defs₀ (F := F)) Variants.none () Set.univ rows (Rel m c) := fun t => by
  rw [bigSep_W0, bigSep_W0, defs₀_row]
  exact triple_restated (sound_body m c t) rfl .rfl fun _ => .rfl

set_option backward.isDefEq.respectTransparency.types false in
/-- The launch: what every final state's arrays hold, and every semaphore counter at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := fun c w => A_eq m c w) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r (h : Pipeline.RDat.FramePost (cfgs 0) (rdat m) (V m) r) c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((A_eq m c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 10 rfl).trans ((A_eq m c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) ((θ_run defs _ _).mono (fun _ h => h.1) (run_main m ρ))

/-- The frame claim: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main m ρ))

end Cert.FfnIdeal.Hand

end
-- ==== Proof.FfnOuts.lean ====
/- What one run of the kernel's body leaves in each output's block. -/
module

public import proofs.«01_k».proof.Proof.FfnWords
public import proofs.«01_k».proof.Proof.FfnBody

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnSpec (Row Wts lin gel amax tsc tcode mid s2 c2 hs hc y)

namespace Pt

variable (X : Pt)

/-- The run. -/
abbrev run := ffnRun (F := Ideal) X.c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg13 X.harg13 X.arg14 X.harg14 X.arg15 X.harg15 X.arg16 X.harg16 X.arg17 X.harg17 X.arg18 X.harg18 X.arg19 X.harg19 X.arg20 X.harg20 X.x0 X.x1 X.x2 X.x3 X.x4 X.x5 X.x6 X.x7 X.x8 X.x9 X.x10 X.x11 X.x12

theorem e45 (r : Fin 256) : X.r_45 (ix2 r 0) = hs (X.row r) X.wts := by
  refine (p79 _ r).trans ?_
  simp only [e44]
  rfl
theorem e762 (r : Fin 256) (n : Fin 7680) : X.v762 (ix3 0 r n) = hc (X.row r) X.wts n := by
  have h : X.v762 = k0_pay81 (F := Ideal) X.r_44 X.v749 := by
    unfold Pt.v762 ffnRun.sl.v762 ffnRun.sl.H16_1
    exact View.readCov_cons_toLoadRect _ _ _ _
  rw [h, p81, e44, e749]
  rfl
theorem e46 (r : Fin 256) (n : Fin 7680) : X.r_46 (ix2 r n) = hc (X.row r) X.wts n :=
  (p82 _ r n).trans (X.e762 r n)
theorem e47 (r : Fin 256) (n : Fin 512) : X.r_47 (ix2 r n)
    = (∑ k, hc (X.row r) X.wts k * X.x10 (ix2 k ⟨0 + n.val, by omega⟩)) * hs (X.row r) X.wts * X.x11 (ix2 0 ⟨0 + n.val, by omega⟩) := by
  refine (p83 _ _ _ _ r n).trans ?_
  simp only [e762, e44, ldc]
  rfl
theorem e48 (r : Fin 256) (n : Fin 512) : X.r_48 (ix2 r n)
    = (∑ k, hc (X.row r) X.wts k * X.x10 (ix2 k ⟨1024 + n.val, by omega⟩)) * hs (X.row r) X.wts := by
  refine (p86 _ _ _ r n).trans ?_
  simp only [e45, e46, ldc]

/-- The block's result, in row `r`. -/
theorem y_at (r : Fin 256) (n : Fin 1920) : View.canon X.run.1 (ix3 0 r n) = y (X.row r) X.wts n := by
  unfold Pt.run ffnRun
  dsimp only
  canon_tiles x h using View.cover_of_tiledBy _ ![1, 256, 128] (by sl_kernel_rfl) _
  case piece0 =>
    idx_vars x
    obtain rfl : (0 : Fin 1) = x0 := Subsingleton.elim _ _
    obtain rfl : r = x1 := Fin.ext h1
    refine Eq.trans ?_ (congrArg (y (X.row r) X.wts) (Fin.ext h2.symm : (⟨1536 + x2.val, by omega⟩ : Fin 1920) = n))
    refine (p88 _ _ _ _ _ _ _  r x2).trans ?_
    simp only [e1, e45, e46, e47, e48, ev776, ev797, ev818, ev839, ldc]
    rfl
  case piece1 =>
    idx_vars x
    obtain rfl : (0 : Fin 1) = x0 := Subsingleton.elim _ _
    obtain rfl : r = x1 := Fin.ext h1
    refine Eq.trans ?_ (congrArg (y (X.row r) X.wts) (Fin.ext h2.symm : (⟨1024 + x2.val, by omega⟩ : Fin 1920) = n))
    refine (p87 _ _ _ _ _  r x2).trans ?_
    simp only [e1, e45, e46, e47, e48, ev776, ev797, ev818, ev839, ldc]
    rfl
  case piece2 =>
    idx_vars x
    obtain rfl : (0 : Fin 1) = x0 := Subsingleton.elim _ _
    obtain rfl : r = x1 := Fin.ext h1
    refine Eq.trans ?_ (congrArg (y (X.row r) X.wts) (Fin.ext h2.symm : (⟨512 + x2.val, by omega⟩ : Fin 1920) = n))
    refine (p85 _ _ _ _ _ _ _  r x2).trans ?_
    simp only [e1, e45, e46, e47, e48, ev776, ev797, ev818, ev839, ldc]
    rfl
  case piece3 =>
    idx_vars x
    obtain rfl : (0 : Fin 1) = x0 := Subsingleton.elim _ _
    obtain rfl : r = x1 := Fin.ext h1
    refine Eq.trans ?_ (congrArg (y (X.row r) X.wts) (Fin.ext h2.symm : (⟨x2.val, by omega⟩ : Fin 1920) = n))
    refine (p84 _ _ _ _  r x2).trans ?_
    simp only [e1, e45, e46, e47, e48, ev776, ev797, ev818, ev839, ldc, Nat.zero_add]
    rfl

/-- The layer norm's codes of row `r`. -/
theorem c2_at (r : Fin 256) (n : Fin 1920) : View.canon X.run.2.1 (ix3 0 r n) = c2 (X.row r) X.wts n := by
  unfold Pt.run ffnRun
  dsimp only
  canon_tiles x h
  idx_vars x
  obtain rfl : (0 : Fin 1) = x0 := Subsingleton.elim _ _
  obtain rfl : r = x1 := Fin.ext h1
  obtain rfl : n = x2 := Fin.ext h2
  exact (p18 _ r n).trans (X.e11 r n)
/-- The hidden layer's codes of row `r`. -/
theorem hc_at (r : Fin 256) (n : Fin 7680) : View.canon X.run.2.2.2.1 (ix3 0 r n) = hc (X.row r) X.wts n := by
  unfold Pt.run ffnRun
  dsimp only
  unfold ffnRun.sl.H16_1
  canon_tiles x h
  idx_vars x
  obtain rfl : (0 : Fin 1) = x0 := Subsingleton.elim _ _
  obtain rfl : r = x1 := Fin.ext h1
  obtain rfl : n = x2 := Fin.ext h2
  exact (p81 _ _ r n).trans (congrArg₂ tcode (X.e749 r n) (congrArg tsc (X.e44 r)))

/-- A store of one row, read back in that row. -/
theorem canon_row {off : Fin 2 → ℕ} (inb : ∀ a, off a + S1x256.size a ≤ S48x256.size a) (w : S1x256.Idx → Elt Ideal .f32)
    (b : Fin 48) (ho : off = ![b.val, 0]) (r : Fin 256) :
    View.canon [(⟨Rect.unit (s := S48x256) off S1x256.size inb, w⟩ : View.Piece (Elt Ideal) S48x256 .f32)] (ix2 b r) = w (ix2 0 r) := by
  subst ho
  have h : (ix2 b r : S48x256.Idx) = (Rect.unit (s := S48x256) ![b.val, 0] S1x256.size inb).emb (ix2 0 r) := by
    refine funext fun a => ?_
    refine Fin.cases ?_ (fun a => Fin.cases ?_ (fun a => a.elim0) a) a
    · exact Fin.ext (show b.val = b.val + 1 * 0 by omega)
    · exact Fin.ext (show r.val = 0 + 1 * r.val by omega)
  rw [h]
  exact View.canon_cons_emb _ _ _ _
/-- The layer norm's scale of row `r`. -/
theorem s2_at (r : Fin 256) : View.canon X.run.2.2.1 (ix2 X.b r) = s2 (X.row r) X.wts :=
  (canon_row _ _ X.b (off5 X) r).trans ((p19 _ r).trans (X.e10 r))
/-- The hidden layer's scale of row `r`. -/
theorem hs_at (r : Fin 256) : View.canon X.run.2.2.2.2.1 (ix2 X.b r) = hs (X.row r) X.wts := by
  exact (canon_row _ _ X.b (off5 X) r).trans ((p80 _ r).trans (congrArg tsc (X.e44 r)))

end Pt

section
variable (m : (ℓ : Loc nD τ sig) → Buf (Elt Ideal) ℓ)

/-- The run at a grid point. -/
def pt (c : Dev nD) (t : Fin cfg0.N) : Pt := ⟨c, (grid0.coords t), (ms0_0 t), (hs0_0 t), (ms0_1 t), (hs0_1 t), (ms0_2 t), (hs0_2 t), (ms0_3 t), (hs0_3 t), (ms0_4 t), (hs0_4 t), (ms0_5 t), (hs0_5 t), (ms0_6 t), (hs0_6 t), (ms0_7 t), (hs0_7 t), (ms0_8 t), (hs0_8 t), (ms0_9 t), (hs0_9 t), (ms0_10 t), (hs0_10 t), (ms0_11 t), (hs0_11 t), (ms0_12 t), (hs0_12 t), (ms0_13 t), (hs0_13 t), (ms0_14 t), (hs0_14 t), (ms0_15 t), (hs0_15 t), (ms0_16 t), (hs0_16 t), (ms0_17 t), (hs0_17 t), scM0_0, (Memref.isWhole_whole _), scM0_1, (Memref.isWhole_whole _), (iblk m c 0 t), (iblk m c 1 t), (iblk m c 2 t), (iblk m c 3 t), (iblk m c 4 t), (iblk m c 5 t), (iblk m c 6 t), (iblk m c 7 t), (iblk m c 8 t), (iblk m c 9 t), (iblk m c 10 t), (iblk m c 11 t), (iblk m c 12 t)⟩

theorem pt_b (c : Dev nD) (t : Fin cfg0.N) : (pt m c t).b.val = t.val := coord_val t

theorem out13_at (c : Dev nD) (t : Fin cfg0.N) (r : Fin 256) (n : Fin 1920) : out13 m c t (ix3 0 r n) = y ((pt m c t).row r) (pt m c t).wts n := by
  rw [out13, View.read_writes_junk_eq_canon]
  exact (pt m c t).y_at r n
theorem out14_at (c : Dev nD) (t : Fin cfg0.N) (r : Fin 256) (n : Fin 1920) : out14 m c t (ix3 0 r n) = c2 ((pt m c t).row r) (pt m c t).wts n := by
  rw [out14, View.read_writes_junk_eq_canon]
  exact (pt m c t).c2_at r n
theorem out15_at (c : Dev nD) (t : Fin cfg0.N) (r : Fin 256) : out15 m c t (ix2 (pt m c t).b r) = s2 ((pt m c t).row r) (pt m c t).wts := by
  rw [out15, View.read_writes_junk_eq_canon]
  exact (pt m c t).s2_at r
theorem out16_at (c : Dev nD) (t : Fin cfg0.N) (r : Fin 256) (n : Fin 7680) : out16 m c t (ix3 0 r n) = hc ((pt m c t).row r) (pt m c t).wts n := by
  rw [out16, View.read_writes_junk_eq_canon]
  exact (pt m c t).hc_at r n
theorem out17_at (c : Dev nD) (t : Fin cfg0.N) (r : Fin 256) : out17 m c t (ix2 (pt m c t).b r) = hs ((pt m c t).row r) (pt m c t).wts := by
  rw [out17, View.read_writes_junk_eq_canon]
  exact (pt m c t).hs_at r
end

end Cert.FfnIdeal.Hand

end
-- ==== Proof.FfnBlk.lean ====
/- The blocks the kernel's body reads, as the arguments: what the host prefix leaves, and which part of it each window shows. -/
module

public import proofs.«01_k».proof.Proof.Gen.FfnIdeal.Frame
public import Idealize.ShloMosaic.Lib.Pipeline.ValueKit
public import Idealize.ShloMosaic.Lib.ValueLayout
public import Idealize.ShloMosaic.Lib.Pointwise

@[expose] public section

set_option maxRecDepth 16384

noncomputable section

namespace Cert.FfnIdeal.Hand

open Idealize.ShloMosaic Idealize.ShloMosaic.TcCoe Idealize.SL.Sem
open Cert.FfnIdeal Cert.FfnIdeal.Gen

variable (m : (ℓ : Loc nD τ sig) → Buf (Elt Ideal) ℓ)

theorem N_48 {t : Fin cfg0.N} : t.val < 48 := lt_of_lt_of_eq t.isLt N_0

/-- The heads' lanes flattened. -/
theorem heads (x : FVec Ideal S30x64x1920 .fp8e4m3) (k n : Fin 1920) :
    shapeCast S1920x1920 x shapeCasts_S30x64x1920_S1920x1920 (ix2 k n) = x (ix3 ⟨k.val / 64, by omega⟩ ⟨k.val % 64, by omega⟩ n) := by
  pointwise

theorem V0 (c : Dev nD) (k : Fin 6) (b : Fin 48) (n : Fin 1920) : V m c main_v0 (ix3 k b n) = m ((c : Thread nD τ).loc main_arg1) (ix3 b k n) := by
  have h : V m c main_v0 = transpose S6x48x1920 [1, 0, 2] (m ((c : Thread nD τ).loc main_arg1)) transposes_S48x6x1920_S6x48x1920_1_0_2 := by
    show StableHlo.after hostOps0 _ (Proc.devRef .tc main_v0) = _
    after_results
  rw [h]
  exact transpose_apply _ _ _ _ _ fun c => match c with | ⟨0, _⟩ => rfl | ⟨1, _⟩ => rfl | ⟨2, _⟩ => rfl

theorem V1 (c : Dev nD) (k n : Fin 1920) : V m c main_v1 (ix2 k n) = m ((c : Thread nD τ).loc main_arg4) (ix3 ⟨k.val / 64, by omega⟩ ⟨k.val % 64, by omega⟩ n) := by
  have h : V m c main_v1 = shapeCast S1920x1920 (m ((c : Thread nD τ).loc main_arg4)) shapeCasts_S30x64x1920_S1920x1920 := by
    show StableHlo.after hostOps0 _ (Proc.devRef .tc main_v1) = _
    after_results
    rfl
  rw [h]
  exact heads _ k n

theorem V2 (c : Dev nD) (n : Fin 1920) : V m c main_v2 (ix2 0 n) = m ((c : Thread nD τ).loc main_arg5) (ix1 n) := by
  have h : V m c main_v2 = broadcastInDim S1x1920 ![1] bcast_S1920_S1x1920_1 (m ((c : Thread nD τ).loc main_arg5)) := by
    show StableHlo.after hostOps0 _ (Proc.devRef .tc main_v2) = _
    after_results
  rw [h]
  refine congrArg (m ((c : Thread nD τ).loc main_arg5)) (funext fun a => ?_)
  refine Fin.cases ?_ (fun a => a.elim0) a
  rfl

theorem V3 (c : Dev nD) (n : Fin 1920) : V m c main_v3 (ix2 0 n) = m ((c : Thread nD τ).loc main_arg6) (ix1 n) := by
  have h : V m c main_v3 = broadcastInDim S1x1920 ![1] bcast_S1920_S1x1920_1 (m ((c : Thread nD τ).loc main_arg6)) := by
    show StableHlo.after hostOps0 _ (Proc.devRef .tc main_v3) = _
    after_results
  rw [h]
  refine congrArg (m ((c : Thread nD τ).loc main_arg6)) (funext fun a => ?_)
  refine Fin.cases ?_ (fun a => a.elim0) a
  rfl

theorem V4 (c : Dev nD) (n : Fin 7680) : V m c main_v4 (ix2 0 n) = m ((c : Thread nD τ).loc main_arg8) (ix1 n) := by
  have h : V m c main_v4 = broadcastInDim S1x7680 ![1] bcast_S7680_S1x7680_1 (m ((c : Thread nD τ).loc main_arg8)) := by
    show StableHlo.after hostOps0 _ (Proc.devRef .tc main_v4) = _
    after_results
  rw [h]
  refine congrArg (m ((c : Thread nD τ).loc main_arg8)) (funext fun a => ?_)
  refine Fin.cases ?_ (fun a => a.elim0) a
  rfl

theorem V5 (c : Dev nD) (n : Fin 7680) : V m c main_v5 (ix2 0 n) = m ((c : Thread nD τ).loc main_arg9) (ix1 n) := by
  have h : V m c main_v5 = broadcastInDim S1x7680 ![1] bcast_S7680_S1x7680_1 (m ((c : Thread nD τ).loc main_arg9)) := by
    show StableHlo.after hostOps0 _ (Proc.devRef .tc main_v5) = _
    after_results
  rw [h]
  refine congrArg (m ((c : Thread nD τ).loc main_arg9)) (funext fun a => ?_)
  refine Fin.cases ?_ (fun a => a.elim0) a
  rfl

theorem V6 (c : Dev nD) (n : Fin 1920) : V m c main_v6 (ix2 0 n) = m ((c : Thread nD τ).loc main_arg11) (ix1 n) := by
  have h : V m c main_v6 = broadcastInDim S1x1920 ![1] bcast_S1920_S1x1920_1 (m ((c : Thread nD τ).loc main_arg11)) := by
    show StableHlo.after hostOps0 _ (Proc.devRef .tc main_v6) = _
    after_results
  rw [h]
  refine congrArg (m ((c : Thread nD τ).loc main_arg11)) (funext fun a => ?_)
  refine Fin.cases ?_ (fun a => a.elim0) a
  rfl

theorem V7 (c : Dev nD) (n : Fin 1920) : V m c main_v7 (ix2 0 n) = m ((c : Thread nD τ).loc main_arg12) (ix1 n) := by
  have h : V m c main_v7 = broadcastInDim S1x1920 ![1] bcast_S1920_S1x1920_1 (m ((c : Thread nD τ).loc main_arg12)) := by
    show StableHlo.after hostOps0 _ (Proc.devRef .tc main_v7) = _
    after_results
  rw [h]
  refine congrArg (m ((c : Thread nD τ).loc main_arg12)) (funext fun a => ?_)
  refine Fin.cases ?_ (fun a => a.elim0) a
  rfl

theorem at0 : ∀ t : Fin cfg0.N, win0_0.index t 0 = t.val ∧ win0_0.index t 1 = 0 ∧ win0_0.index t 2 = 0 := (by decide +kernel : ∀ t : Fin grid0.N, _)
/-- Batch `t` of the argument. -/
theorem blk0 (c : Dev nD) (t : Fin cfg0.N) (r : Fin 256) (n : Fin 1920) : iblk m c 0 t (ix3 0 r n) = m ((c : Thread nD τ).loc main_arg0) (ix3 ⟨t.val, N_48⟩ r n) := by
  have ha := at0 t
  blk_ext! [iblk, V_main_arg0] <;> omega
theorem at1 : ∀ t : Fin cfg0.N, win0_1.index t 0 = 0 ∧ win0_1.index t 1 = 0 ∧ win0_1.index t 2 = 0 := (by decide +kernel : ∀ t : Fin grid0.N, _)
theorem blk1 (c : Dev nD) (t : Fin cfg0.N) : iblk m c 1 t = V m c main_v0 := by
  have ha := at1 t
  blk_ext! [iblk] <;> omega
theorem at2 : ∀ t : Fin cfg0.N, win0_2.index t 0 = t.val ∧ win0_2.index t 1 = 0 ∧ win0_2.index t 2 = 0 := (by decide +kernel : ∀ t : Fin grid0.N, _)
/-- Batch `t` of the argument. -/
theorem blk2 (c : Dev nD) (t : Fin cfg0.N) (r : Fin 256) (n : Fin 1920) : iblk m c 2 t (ix3 0 r n) = m ((c : Thread nD τ).loc main_arg2) (ix3 ⟨t.val, N_48⟩ r n) := by
  have ha := at2 t
  blk_ext! [iblk, V_main_arg2] <;> omega
theorem at3 : ∀ t : Fin cfg0.N, win0_3.index t 0 = 0 ∧ win0_3.index t 1 = 0 := (by decide +kernel : ∀ t : Fin grid0.N, _)
theorem blk3 (c : Dev nD) (t : Fin cfg0.N) : iblk m c 3 t = m ((c : Thread nD τ).loc main_arg3) := by
  have ha := at3 t
  blk_ext! [iblk, V_main_arg3] <;> omega
theorem at4 : ∀ t : Fin cfg0.N, win0_4.index t 0 = 0 ∧ win0_4.index t 1 = 0 := (by decide +kernel : ∀ t : Fin grid0.N, _)
theorem blk4 (c : Dev nD) (t : Fin cfg0.N) : iblk m c 4 t = V m c main_v1 := by
  have ha := at4 t
  blk_ext! [iblk] <;> omega
theorem at5 : ∀ t : Fin cfg0.N, win0_5.index t 0 = 0 ∧ win0_5.index t 1 = 0 := (by decide +kernel : ∀ t : Fin grid0.N, _)
theorem blk5 (c : Dev nD) (t : Fin cfg0.N) : iblk m c 5 t = V m c main_v2 := by
  have ha := at5 t
  blk_ext! [iblk] <;> omega
theorem at6 : ∀ t : Fin cfg0.N, win0_6.index t 0 = 0 ∧ win0_6.index t 1 = 0 := (by decide +kernel : ∀ t : Fin grid0.N, _)
theorem blk6 (c : Dev nD) (t : Fin cfg0.N) : iblk m c 6 t = V m c main_v3 := by
  have ha := at6 t
  blk_ext! [iblk] <;> omega
theorem at7 : ∀ t : Fin cfg0.N, win0_7.index t 0 = 0 ∧ win0_7.index t 1 = 0 := (by decide +kernel : ∀ t : Fin grid0.N, _)
theorem blk7 (c : Dev nD) (t : Fin cfg0.N) : iblk m c 7 t = m ((c : Thread nD τ).loc main_arg7) := by
  have ha := at7 t
  blk_ext! [iblk, V_main_arg7] <;> omega
theorem at8 : ∀ t : Fin cfg0.N, win0_8.index t 0 = 0 ∧ win0_8.index t 1 = 0 := (by decide +kernel : ∀ t : Fin grid0.N, _)
theorem blk8 (c : Dev nD) (t : Fin cfg0.N) : iblk m c 8 t = V m c main_v4 := by
  have ha := at8 t
  blk_ext! [iblk] <;> omega
theorem at9 : ∀ t : Fin cfg0.N, win0_9.index t 0 = 0 ∧ win0_9.index t 1 = 0 := (by decide +kernel : ∀ t : Fin grid0.N, _)
theorem blk9 (c : Dev nD) (t : Fin cfg0.N) : iblk m c 9 t = V m c main_v5 := by
  have ha := at9 t
  blk_ext! [iblk] <;> omega
theorem at10 : ∀ t : Fin cfg0.N, win0_10.index t 0 = 0 ∧ win0_10.index t 1 = 0 := (by decide +kernel : ∀ t : Fin grid0.N, _)
theorem blk10 (c : Dev nD) (t : Fin cfg0.N) : iblk m c 10 t = m ((c : Thread nD τ).loc main_arg10) := by
  have ha := at10 t
  blk_ext! [iblk, V_main_arg10] <;> omega
theorem at11 : ∀ t : Fin cfg0.N, win0_11.index t 0 = 0 ∧ win0_11.index t 1 = 0 := (by decide +kernel : ∀ t : Fin grid0.N, _)
theorem blk11 (c : Dev nD) (t : Fin cfg0.N) : iblk m c 11 t = V m c main_v6 := by
  have ha := at11 t
  blk_ext! [iblk] <;> omega
theorem at12 : ∀ t : Fin cfg0.N, win0_12.index t 0 = 0 ∧ win0_12.index t 1 = 0 := (by decide +kernel : ∀ t : Fin grid0.N, _)
theorem blk12 (c : Dev nD) (t : Fin cfg0.N) : iblk m c 12 t = V m c main_v7 := by
  have ha := at12 t
  blk_ext! [iblk] <;> omega

end Cert.FfnIdeal.Hand

end
-- ==== Proof.FfnArr.lean ====
/- The rows and the weights of the feed-forward part, read from whole arrays. -/
module

public import proofs.«01_k».proof.Proof.FfnSpec
public import Idealize.ShloMosaic.Lib.Pointwise

@[expose] public section

set_option maxRecDepth 16384

noncomputable section

namespace Cert.FfnSpec

open Idealize.ShloMosaic

/-- The row of token `r` of batch `b`. -/
def rowOf (x0 : FVec Ideal ⟨3, ![48, 256, 1920]⟩ .bf16) (x1 : FVec Ideal ⟨3, ![48, 6, 1920]⟩ .f32) (x2 : FVec Ideal ⟨3, ![48, 256, 1920]⟩ .fp8e4m3)
    (x3 : FVec Ideal ⟨2, ![48, 256]⟩ .f32) (b : Fin 48) (r : Fin 256) : Row where
  x n := x0 (ix3 b r n)
  o n := x2 (ix3 b r n)
  os := x3 (ix2 b r)
  g1 n := x1 (ix3 b 0 n)
  g2 n := x1 (ix3 b 1 n)
  sc n := x1 (ix3 b 3 n)
  sh n := x1 (ix3 b 5 n)

/-- The weights; the projection's come as heads by lanes. -/
def wtsOf (x4 : FVec Ideal ⟨3, ![30, 64, 1920]⟩ .fp8e4m3) (x5 x6 : FVec Ideal ⟨1, ![1920]⟩ .f32) (x7 : FVec Ideal ⟨2, ![1920, 7680]⟩ .fp8e4m3)
    (x8 x9 : FVec Ideal ⟨1, ![7680]⟩ .f32) (x10 : FVec Ideal ⟨2, ![7680, 1920]⟩ .fp8e4m3) (x11 x12 : FVec Ideal ⟨1, ![1920]⟩ .f32) : Wts where
  wp k n := x4 (ix3 ⟨k.val / 64, by omega⟩ ⟨k.val % 64, by omega⟩ n)
  wps n := x5 (ix1 n)
  bp n := x6 (ix1 n)
  w1 k n := x7 (ix2 k n)
  w1s n := x8 (ix1 n)
  b1 n := x9 (ix1 n)
  w2 k n := x10 (ix2 k n)
  w2s n := x11 (ix1 n)
  b2 n := x12 (ix1 n)

end Cert.FfnSpec

end
-- ==== Proof.FfnVal.lean ====
/- The arrays the kernel leaves, as the rows' values. -/
module

public import proofs.«01_k».proof.Proof.FfnOuts
public import proofs.«01_k».proof.Proof.FfnBlk
public import proofs.«01_k».proof.Proof.FfnArr
public import Idealize.ShloMosaic.Lib.Pipeline.ArrRel
public import Idealize.ShloMosaic.Lib.Pipeline.ValueKit

@[expose] public section

set_option maxRecDepth 16384

noncomputable section

namespace Idealize.ShloMosaic

open Idealize.SL Idealize.SL.RA

namespace Pipeline

open TcCoe

variable {nD : Nat} {τ : Topo} {sig : RefSig} {Val : EltTy → Type} {Λ₀ : SL.Sem.Labels}
variable {Ix : Type} [DecidableEq Ix] {Name : Type} [DecidableEq Name] {U : Type} [URA U] {Lvl : Type}
variable {cfg : Cfg sig Λ₀} {c : Dev nD}

/-- What the body leaves in a window that is not marked, at a point that writes it back: what the exact data name. -/
theorem Dat.toRRel_leaves_exact {dat : Dat τ Val Ix Name U Lvl cfg c} {fgt : Fin cfg.W → Bool}
    {Rl : (w : Fin cfg.W) → Fin cfg.N → ((cfg.win w).block.Idx → Val (cfg.win w).elt) → Prop} {w : Fin cfg.W} (h : fgt w = false)
    (hl : cfg.loose w = false) {t : Fin cfg.N} (hf : (cfg.win w).flush t = true) {X : (cfg.win w).block.Idx → Val (cfg.win w).elt}
    (hX : (dat.toRRel fgt Rl).Leaves w t X) : X = dat.after w t := by
  obtain ⟨Y, _, hY⟩ := hX
  rw [dat.toRRel_after_of_eq_false h] at hY
  have := (Dat.Leaves.live_iff dat (.inr hf)).mp hY
  rw [hl] at this
  exact this

end Pipeline

end Idealize.ShloMosaic

namespace Cert.FfnIdeal.Hand

open Idealize.ShloMosaic Idealize.ShloMosaic.TcCoe Idealize.SL.Sem
open Idealize.ShloMosaic.Pipeline (Dat)
open Cert.FfnIdeal Cert.FfnIdeal.Gen
open Cert.FfnSpec (Row Wts s2 c2 hs hc y rowOf wtsOf)

variable (m : (ℓ : Loc nD τ sig) → Buf (Elt Ideal) ℓ) (ρ : Dev nD → PrngReg)

/-- The row of a token of the arguments. -/
abbrev aRow (c : Dev nD) (b : Fin 48) (r : Fin 256) : Row := rowOf (m ((c : Thread nD τ).loc main_arg0)) (m ((c : Thread nD τ).loc main_arg1)) (m ((c : Thread nD τ).loc main_arg2)) (m ((c : Thread nD τ).loc main_arg3)) b r
/-- The weights of the arguments. -/
abbrev aWts (c : Dev nD) : Wts := wtsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem pt_b_eq (c : Dev nD) (t : Fin cfg0.N) : (pt m c t).b = ⟨t.val, N_48⟩ := Fin.ext (pt_b m c t)

/-- The rows a grid point computes are its batch's. -/
theorem pt_row (c : Dev nD) (t : Fin cfg0.N) (r : Fin 256) : (pt m c t).row r = aRow m c ⟨t.val, N_48⟩ r := by
  have hb := pt_b_eq m c t
  unfold Pt.row aRow rowOf
  rw [hb]
  congr 1
  · exact funext fun n => blk0 m c t r n
  · exact funext fun n => blk2 m c t r n
  · exact congrFun (blk3 m c t) _
  · exact funext fun n => (congrFun (blk1 m c t) _).trans (V0 m c 0 _ n)
  · exact funext fun n => (congrFun (blk1 m c t) _).trans (V0 m c 1 _ n)
  · exact funext fun n => (congrFun (blk1 m c t) _).trans (V0 m c 3 _ n)
  · exact funext fun n => (congrFun (blk1 m c t) _).trans (V0 m c 5 _ n)

/-- Every grid point has all the weights. -/
theorem pt_wts (c : Dev nD) (t : Fin cfg0.N) : (pt m c t).wts = aWts m c := by
  unfold Pt.wts aWts wtsOf
  congr 1
  · exact funext fun k => funext fun n => (congrFun (blk4 m c t) _).trans (V1 m c k n)
  · exact funext fun n => (congrFun (blk5 m c t) _).trans (V2 m c n)
  · exact funext fun n => (congrFun (blk6 m c t) _).trans (V3 m c n)
  · exact funext fun k => funext fun n => congrFun (blk7 m c t) _
  · exact funext fun n => (congrFun (blk8 m c t) _).trans (V4 m c n)
  · exact funext fun n => (congrFun (blk9 m c t) _).trans (V5 m c n)
  · exact funext fun k => funext fun n => congrFun (blk10 m c t) _
  · exact funext fun n => (congrFun (blk11 m c t) _).trans (V6 m c n)
  · exact funext fun n => (congrFun (blk12 m c t) _).trans (V7 m c n)

theorem at13 : ∀ t : Fin cfg0.N, win0_13.index t 0 = t.val ∧ win0_13.index t 1 = 0 ∧ win0_13.index t 2 = 0 := (by decide +kernel : ∀ t : Fin grid0.N, _)
theorem at14 : ∀ t : Fin cfg0.N, win0_14.index t 0 = t.val ∧ win0_14.index t 1 = 0 ∧ win0_14.index t 2 = 0 := (by decide +kernel : ∀ t : Fin grid0.N, _)
theorem at16 : ∀ t : Fin cfg0.N, win0_16.index t 0 = t.val ∧ win0_16.index t 1 = 0 ∧ win0_16.index t 2 = 0 := (by decide +kernel : ∀ t : Fin grid0.N, _)

/-- The grid point of a batch. -/
def pt0 (b : Fin 48) : Fin cfg0.N := ⟨b.val, lt_of_lt_of_eq b.isLt N_0.symm⟩
/-- The last grid point. -/
def tLast : Fin cfg0.N := pt0 47

/-- What each write-back's buffer may hold: the blocks of the three blocked outputs, and every row of the two row outputs. -/
def Good (c : Dev nD) (after : (w : Fin cfg0.W) → Fin cfg0.N → (cfg0.win w).block.Idx → Elt Ideal (cfg0.win w).elt) : Prop :=
  ∀ (w : Fin cfg0.W) (u : Fin cfg0.N), (cfg0.win w).flush u = true → (rdat m c).Leaves w u (after w u)

attribute [local irreducible] Cert.FfnSpec.y Cert.FfnSpec.c2 Cert.FfnSpec.hc Cert.FfnSpec.s2 Cert.FfnSpec.hs rowOf wtsOf

section
variable {m} {c : Dev nD} {after : (w : Fin cfg0.W) → Fin cfg0.N → (cfg0.win w).block.Idx → Elt Ideal (cfg0.win w).elt} (h : Good m c after)
include h

theorem fin13 : ((rdat m c).withAfter after).arrAt 13 cfg0.N = (fun i => y (aRow m c (i 0) (i 1)) (aWts m c) (i 2)) := by
  refine ((rdat m c).withAfter after).arrAt_eq_of_covers 13 _ (by decide +kernel) fun t hf x => ?_
  have hX : after 13 t = out13 m c t := (Dat.toRRel_leaves_exact (by rfl) (by rfl) hf (h 13 t hf)).trans (after0_13 m c t)
  have ha := at13 t
  show after 13 t _ = _
  rw [hX]
  blk_simp
  idx_vars x
  obtain rfl : (0 : Fin 1) = x0 := Subsingleton.elim _ _
  refine (out13_at m c t x1 x2).trans ?_
  rw [pt_row, pt_wts]
  refine congrArg (fun e : (⟨3, ![48, 256, 1920]⟩ : Shape).Idx => y (aRow m c (e 0) (e 1)) (aWts m c) (e 2)) (?_ : ix3 ⟨t.val, N_48⟩ x1 x2 = (win0_13.rect t).emb (ix3 0 x1 x2))
  refine funext fun a => ?_
  refine Fin.cases ?_ (fun a => Fin.cases ?_ (fun a => Fin.cases ?_ (fun a => a.elim0) a) a) a
  · refine Fin.ext (((win0_13.rect_emb_val t (ix3 0 x1 x2) 0).trans ?_).symm)
    rw [ha.1]
    show t.val * 1 + 0 = t.val
    omega
  · exact Fin.ext (win0_13.rect_emb_val_of_index_zero t 1 ha.2.1 (ix3 0 x1 x2)).symm
  · exact Fin.ext (win0_13.rect_emb_val_of_index_zero t 2 ha.2.2 (ix3 0 x1 x2)).symm

theorem fin14 : ((rdat m c).withAfter after).arrAt 14 cfg0.N = (fun i => c2 (aRow m c (i 0) (i 1)) (aWts m c) (i 2)) := by
  refine ((rdat m c).withAfter after).arrAt_eq_of_covers 14 _ (by decide +kernel) fun t hf x => ?_
  have hX : after 14 t = out14 m c t := (Dat.toRRel_leaves_exact (by rfl) (by rfl) hf (h 14 t hf)).trans (after0_14 m c t)
  have ha := at14 t
  show after 14 t _ = _
  rw [hX]
  blk_simp
  idx_vars x
  obtain rfl : (0 : Fin 1) = x0 := Subsingleton.elim _ _
  refine (out14_at m c t x1 x2).trans ?_
  rw [pt_row, pt_wts]
  refine congrArg (fun e : (⟨3, ![48, 256, 1920]⟩ : Shape).Idx => c2 (aRow m c (e 0) (e 1)) (aWts m c) (e 2)) (?_ : ix3 ⟨t.val, N_48⟩ x1 x2 = (win0_14.rect t).emb (ix3 0 x1 x2))
  refine funext fun a => ?_
  refine Fin.cases ?_ (fun a => Fin.cases ?_ (fun a => Fin.cases ?_ (fun a => a.elim0) a) a) a
  · refine Fin.ext (((win0_14.rect_emb_val t (ix3 0 x1 x2) 0).trans ?_).symm)
    rw [ha.1]
    show t.val * 1 + 0 = t.val
    omega
  · exact Fin.ext (win0_14.rect_emb_val_of_index_zero t 1 ha.2.1 (ix3 0 x1 x2)).symm
  · exact Fin.ext (win0_14.rect_emb_val_of_index_zero t 2 ha.2.2 (ix3 0 x1 x2)).symm

theorem fin16 : ((rdat m c).withAfter after).arrAt 16 cfg0.N = (fun i => hc (aRow m c (i 0) (i 1)) (aWts m c) (i 2)) := by
  refine ((rdat m c).withAfter after).arrAt_eq_of_covers 16 _ (by decide +kernel) fun t hf x => ?_
  have hX : after 16 t = out16 m c t := (Dat.toRRel_leaves_exact (by rfl) (by rfl) hf (h 16 t hf)).trans (after0_16 m c t)
  have ha := at16 t
  show after 16 t _ = _
  rw [hX]
  blk_simp
  idx_vars x
  obtain rfl : (0 : Fin 1) = x0 := Subsingleton.elim _ _
  refine (out16_at m c t x1 x2).trans ?_
  rw [pt_row, pt_wts]
  refine congrArg (fun e : (⟨3, ![48, 256, 7680]⟩ : Shape).Idx => hc (aRow m c (e 0) (e 1)) (aWts m c) (e 2)) (?_ : ix3 ⟨t.val, N_48⟩ x1 x2 = (win0_16.rect t).emb (ix3 0 x1 x2))
  refine funext fun a => ?_
  refine Fin.cases ?_ (fun a => Fin.cases ?_ (fun a => Fin.cases ?_ (fun a => a.elim0) a) a) a
  · refine Fin.ext (((win0_16.rect_emb_val t (ix3 0 x1 x2) 0).trans ?_).symm)
    rw [ha.1]
    show t.val * 1 + 0 = t.val
    omega
  · exact Fin.ext (win0_16.rect_emb_val_of_index_zero t 1 ha.2.1 (ix3 0 x1 x2)).symm
  · exact Fin.ext (win0_16.rect_emb_val_of_index_zero t 2 ha.2.2 (ix3 0 x1 x2)).symm

theorem fin15 : ((rdat m c).withAfter after).arrAt 15 cfg0.N = (fun i => s2 (aRow m c (i 0) (i 1)) (aWts m c)) := by
  refine ((rdat m c).withAfter after).arrAt_eq_of_after_last 15 tLast (by decide +kernel) _ fun j => ?_
  have hR : Rel m c 15 tLast (after 15 tLast) := (dats m 0 c).toRRel_leaves (by rfl) (h 15 tLast ((flush0_15 _).mpr rfl))
  blk_simp
  idx_vars j
  have e := hR (pt0 j0) (ix2 j0 j1) (by show j0.val ≤ 47; omega) rfl
  have ho := out15_at m c (pt0 j0) j1
  rw [pt_b_eq, pt_row, pt_wts] at ho
  exact e.trans ho

theorem fin17 : ((rdat m c).withAfter after).arrAt 17 cfg0.N = (fun i => hs (aRow m c (i 0) (i 1)) (aWts m c)) := by
  refine ((rdat m c).withAfter after).arrAt_eq_of_after_last 17 tLast (by decide +kernel) _ fun j => ?_
  have hR : Rel m c 17 tLast (after 17 tLast) := (dats m 0 c).toRRel_leaves (by rfl) (h 17 tLast ((flush0_17 _).mpr rfl))
  blk_simp
  idx_vars j
  have e := hR (pt0 j0) (ix2 j0 j1) (by show j0.val ≤ 47; omega) rfl
  have ho := out17_at m c (pt0 j0) j1
  rw [pt_b_eq, pt_row, pt_wts] at ho
  exact e.trans ho

end

/-- The run: the results' arrays are the rows' values. -/
theorem results : θ_run defs (onTc (τ := τ) (main (F := Ideal))) ⟨m, fun _ => 0, ρ⟩ (fun r => ∀ c : Dev nD,
      r.2.mem ((c.tc : Thread nD τ).loc main_v8_0) = (fun i => y (aRow m c (i 0) (i 1)) (aWts m c) (i 2))
      ∧ r.2.mem ((c.tc : Thread nD τ).loc main_v8_1) = (fun i => c2 (aRow m c (i 0) (i 1)) (aWts m c) (i 2))
      ∧ r.2.mem ((c.tc : Thread nD τ).loc main_v8_2) = (fun i => s2 (aRow m c (i 0) (i 1)) (aWts m c))
      ∧ r.2.mem ((c.tc : Thread nD τ).loc main_v8_3) = (fun i => hc (aRow m c (i 0) (i 1)) (aWts m c) (i 2))
      ∧ r.2.mem ((c.tc : Thread nD τ).loc main_v8_4) = (fun i => hs (aRow m c (i 0) (i 1)) (aWts m c))) :=
  (θ_run defs _ _).mono (fun r h c => by
    obtain ⟨after, hL, hA⟩ := Pipeline.RDat.FramePost.exists_exact h.1 c
    exact ⟨(hA 13).trans (fin13 hL), (hA 14).trans (fin14 hL), (hA 15).trans (fin15 hL), (hA 16).trans (fin16 hL), (hA 17).trans (fin17 hL)⟩) (run_main m ρ)

end Cert.FfnIdeal.Hand

end
-- ==== Proof.FfnRefPay.lean ====
/- The reference's payloads, read at an index. -/
module

public import proofs.«01_k».proof.Proof.Gen.FfnRefIdeal.Skeleton
public import proofs.«01_k».proof.Proof.FfnSpec

@[expose] public section

set_option maxRecDepth 16384

noncomputable section

namespace Cert.FfnRefIdeal.Hand

open Idealize.ShloMosaic Idealize.ShloMosaic.TcCoe Idealize.SL.Sem
open Cert.FfnRefIdeal Cert.FfnRefIdeal.Gen
open Cert.FfnSpec (cS cC cSC cN cEps cMax cMin cHalf cBot ab lin gel gel_eq cm amax tsc tcode lnv mean sd)

/-- The two constants of the reference's GELU. -/
theorem q_named_c : Named.named (F := Ideal) κ "sqrt_2_over_pi" (φ := .f32) 0x3F4C422A#32 = cS :=
  IdealRules.named_const.ideal_named_scalar _ _ _ _ rfl
theorem q_named_c3 : Named.named (F := Ideal) κ "gelu_cubic" (φ := .f32) 0x3D372713#32 = cC :=
  IdealRules.named_const.ideal_named_scalar _ _ _ _ rfl

theorem q4 (v0 : FVec Ideal S48x1x1920 .f32) (v4 : FVec Ideal S48x256x1920 .bf16) (v6 : FVec Ideal S30x64x1920 .fp8e4m3) (v8 : FVec Ideal S48x256x1920 .fp8e4m3) (v9 : FVec Ideal S48x256 .f32) (v11 : FVec Ideal S1920 .f32) (v12 : FVec Ideal S1920 .f32) (b : Fin 48) (r : Fin 256) (n : Fin 1920) :
    k0_pay4 (F := Ideal) v0 v4 v6 v8 v9 v11 v12 (ix3 b r n) = v4 (ix3 b r n) + v0 (ix3 b 0 n) * lin (fun k => v8 (ix3 b r k)) (v9 (ix2 b r)) (fun k : Fin 1920 => v6 (ix3 ⟨k.val / 64, by omega⟩ ⟨k.val % 64, by omega⟩ n)) (v11 (ix1 n)) (v12 (ix1 n)) := by
  pointwise [k0_pay4, lin]

theorem q5 (v0 : FVec Ideal S48x1x1920 .f32) (v4 : FVec Ideal S48x256x1920 .bf16) (v6 : FVec Ideal S30x64x1920 .fp8e4m3) (v8 : FVec Ideal S48x256x1920 .fp8e4m3) (v9 : FVec Ideal S48x256 .f32) (v11 : FVec Ideal S1920 .f32) (v12 : FVec Ideal S1920 .f32) (b : Fin 48) (r : Fin 256) (n : Fin 1920) :
    k0_pay5 (F := Ideal) v0 v4 v6 v8 v9 v11 v12 (ix3 b r n) = mean (fun n => k0_pay4 (F := Ideal) v0 v4 v6 v8 v9 v11 v12 (ix3 b r n)) := by
  pointwise [k0_pay5, mean]

theorem q6 (v2 : FVec Ideal S48x1x1920 .f32) (v3 : FVec Ideal S48x1x1920 .f32) (v26 : FVec Ideal S48x256x1920 .f32) (v31 : FVec Ideal S48x256x1920 .f32)
    (hm : ∀ (b : Fin 48) (r : Fin 256) (n : Fin 1920), v31 (ix3 b r n) = mean (fun n => v26 (ix3 b r n))) (b : Fin 48) (r : Fin 256) (n : Fin 1920) :
    k0_pay6 (F := Ideal) v2 v3 v26 v31 (ix3 b r n) = lnv (fun n => v26 (ix3 b r n)) (fun n => v2 (ix3 b 0 n)) (fun n => v3 (ix3 b 0 n)) n := by
  pointwise [k0_pay6]
  simp only [hm]
  rfl

/-- The largest magnitude along a row. -/
theorem red_1 (u : FVec Ideal S48x256x1920 .f32) (b : Fin 48) (r : Fin 256) :
    multiReduction .maximumf [2] S48x256 (absf u) 0xFF800000#32 reduces_S48x256x1920_S48x256 (.inl rfl) rfl (ix2 b r) = amax (fun k => u (ix3 b r k)) := by
  have h (u : FVec Ideal S48x256x1920 .f32) :
      multiReduction .maximumf [2] S48x256 u 0xFF800000#32 reduces_S48x256x1920_S48x256 (.inl rfl) rfl (ix2 b r) = Finset.fold max Cert.FfnSpec.cBot (fun k => u (ix3 b r k)) Finset.univ := by
    pointwise
  exact h (absf u)

/-- A clipped quotient. -/
theorem cod_1 (x : FVec Ideal S48x256x1920 .f32) (s : FVec Ideal S48x256x1 .f32) (b : Fin 48) (r : Fin 256) (n : Fin 1920) :
    truncf .fp8e4m3 (minimumf (broadcast S48x256x1920 (Scalar.ofBits (F := Ideal) .f32 0x43E00000#32)) (maximumf (broadcast S48x256x1920 (Scalar.ofBits (F := Ideal) .f32 0xC3E00000#32)) (divf x (broadcastTo S48x256x1920 s broadcasts_S48x256x1_S48x256x1920)))) bitsLt_fp8e4m3_f32 (ix3 b r n) = tcode (x (ix3 b r n)) (s (ix3 b r 0)) := by
  pointwise
  rfl

/-- The largest magnitude along a row. -/
theorem red_2 (u : FVec Ideal S48x256x7680 .f32) (b : Fin 48) (r : Fin 256) :
    multiReduction .maximumf [2] S48x256 (absf u) 0xFF800000#32 reduces_S48x256x7680_S48x256 (.inl rfl) rfl (ix2 b r) = amax (fun k => u (ix3 b r k)) := by
  have h (u : FVec Ideal S48x256x7680 .f32) :
      multiReduction .maximumf [2] S48x256 u 0xFF800000#32 reduces_S48x256x7680_S48x256 (.inl rfl) rfl (ix2 b r) = Finset.fold max Cert.FfnSpec.cBot (fun k => u (ix3 b r k)) Finset.univ := by
    pointwise
  exact h (absf u)

/-- A clipped quotient. -/
theorem cod_2 (x : FVec Ideal S48x256x7680 .f32) (s : FVec Ideal S48x256x1 .f32) (b : Fin 48) (r : Fin 256) (n : Fin 7680) :
    truncf .fp8e4m3 (minimumf (broadcast S48x256x7680 (Scalar.ofBits (F := Ideal) .f32 0x43E00000#32)) (maximumf (broadcast S48x256x7680 (Scalar.ofBits (F := Ideal) .f32 0xC3E00000#32)) (divf x (broadcastTo S48x256x7680 s broadcasts_S48x256x1_S48x256x7680)))) bitsLt_fp8e4m3_f32 (ix3 b r n) = tcode (x (ix3 b r n)) (s (ix3 b r 0)) := by
  pointwise
  rfl

/-- A quantised matmul of every row. -/
theorem mm_1 (x : FVec Ideal S48x256x1920 .fp8e4m3) (s : FVec Ideal S48x256x1 .f32) (w : FVec Ideal S1920x7680 .fp8e4m3) (ws : FVec Ideal S7680 .f32) (b : Fin 48) (r : Fin 256) (n : Fin 7680) :
    mulf (mulf (shapeCast S48x256x7680 (matmul dot_S12288x1920_S1920x7680_S12288x7680_1_0_0_1_n_n none (shapeCast S12288x1920 x shapeCasts_S48x256x1920_S12288x1920) w (constant S12288x7680 .f32 0x00000000#32)) shapeCasts_S12288x7680_S48x256x7680)
      (broadcastTo S48x256x7680 s broadcasts_S48x256x1_S48x256x7680))
      (broadcastTo S48x256x7680 (shapeCast S1x1x7680 ws shapeCasts_S7680_S1x1x7680) broadcasts_S1x1x7680_S48x256x7680) (ix3 b r n)
      = (∑ k, x (ix3 b r k) * w (ix2 k n)) * s (ix3 b r 0) * ws (ix1 n) := by
  pointwise

/-- A quantised matmul of every row. -/
theorem mm_2 (x : FVec Ideal S48x256x7680 .fp8e4m3) (s : FVec Ideal S48x256x1 .f32) (w : FVec Ideal S7680x1920 .fp8e4m3) (ws : FVec Ideal S1920 .f32) (b : Fin 48) (r : Fin 256) (n : Fin 1920) :
    mulf (mulf (shapeCast S48x256x1920 (matmul dot_S12288x7680_S7680x1920_S12288x1920_1_0_0_1_n_n none (shapeCast S12288x7680 x shapeCasts_S48x256x7680_S12288x7680) w (constant S12288x1920 .f32 0x00000000#32)) shapeCasts_S12288x1920_S48x256x1920)
      (broadcastTo S48x256x1920 s broadcasts_S48x256x1_S48x256x1920))
      (broadcastTo S48x256x1920 (shapeCast S1x1x1920 ws shapeCasts_S1920_S1x1x1920) broadcasts_S1x1x1920_S48x256x1920) (ix3 b r n)
      = (∑ k, x (ix3 b r k) * w (ix2 k n)) * s (ix3 b r 0) * ws (ix1 n) := by
  pointwise

/-- A row's scale. -/
theorem scal (u : FVec Ideal S48x256 .f32) (b : Fin 48) (r : Fin 256) :
    (let v51 : FVec Ideal S48x256x1 .f32 := shapeCast S48x256x1 u shapeCasts_S48x256_S48x256x1
     select (cmpf .oeq v51 (broadcast S48x256x1 (Scalar.ofBits (F := Ideal) .f32 0x00000000#32))) (broadcast S48x256x1 (Scalar.ofBits (F := Ideal) .f32 0x3F800000#32)) (divf v51 (broadcast S48x256x1 (Scalar.ofBits (F := Ideal) .f32 0x43E00000#32)))) (ix3 b r 0) = tsc (u (ix2 b r)) := by
  pointwise
  rfl

theorem a7 (v2 : FVec Ideal S48x1x1920 .f32) (v3 : FVec Ideal S48x1x1920 .f32) (v26 : FVec Ideal S48x256x1920 .f32) (v31 : FVec Ideal S48x256x1920 .f32) (b : Fin 48) (r : Fin 256) :
    k0_pay7 (F := Ideal) v2 v3 v26 v31 (ix3 b r 0) = tsc (amax (fun n => k0_pay6 (F := Ideal) v2 v3 v26 v31 (ix3 b r n))) :=
  (scal _ b r).trans (congrArg tsc (red_1 _ b r))

theorem q7 (v2 : FVec Ideal S48x1x1920 .f32) (v3 : FVec Ideal S48x1x1920 .f32) (v26 : FVec Ideal S48x256x1920 .f32) (v31 : FVec Ideal S48x256x1920 .f32)
    (hm : ∀ (b : Fin 48) (r : Fin 256) (n : Fin 1920), v31 (ix3 b r n) = mean (fun n => v26 (ix3 b r n))) (b : Fin 48) (r : Fin 256) :
    k0_pay7 (F := Ideal) v2 v3 v26 v31 (ix3 b r 0) = tsc (amax (lnv (fun n => v26 (ix3 b r n)) (fun n => v2 (ix3 b 0 n)) (fun n => v3 (ix3 b 0 n)))) := by
  exact (a7 _ _ _ _ b r).trans (congrArg (fun f => tsc (amax f)) (funext fun n => q6 _ _ _ _ hm b r n))

theorem a8 (v2 : FVec Ideal S48x1x1920 .f32) (v3 : FVec Ideal S48x1x1920 .f32) (v26 : FVec Ideal S48x256x1920 .f32) (v31 : FVec Ideal S48x256x1920 .f32) (b : Fin 48) (r : Fin 256) (n : Fin 1920) :
    k0_pay8 (F := Ideal) v2 v3 v26 v31 (ix3 b r n) = tcode (k0_pay6 (F := Ideal) v2 v3 v26 v31 (ix3 b r n)) (k0_pay7 (F := Ideal) v2 v3 v26 v31 (ix3 b r 0)) :=
  cod_1 _ _ b r n

theorem q8 (v2 : FVec Ideal S48x1x1920 .f32) (v3 : FVec Ideal S48x1x1920 .f32) (v26 : FVec Ideal S48x256x1920 .f32) (v31 : FVec Ideal S48x256x1920 .f32)
    (hm : ∀ (b : Fin 48) (r : Fin 256) (n : Fin 1920), v31 (ix3 b r n) = mean (fun n => v26 (ix3 b r n))) (b : Fin 48) (r : Fin 256) (n : Fin 1920) :
    k0_pay8 (F := Ideal) v2 v3 v26 v31 (ix3 b r n) = tcode (lnv (fun n => v26 (ix3 b r n)) (fun n => v2 (ix3 b 0 n)) (fun n => v3 (ix3 b 0 n)) n) (tsc (amax (lnv (fun n => v26 (ix3 b r n)) (fun n => v2 (ix3 b 0 n)) (fun n => v3 (ix3 b 0 n))))) := by
  exact (a8 _ _ _ _ b r n).trans (congrArg₂ tcode (q6 _ _ _ _ hm b r n) (q7 _ _ _ _ hm b r))

theorem a9 (v2 : FVec Ideal S48x1x1920 .f32) (v3 : FVec Ideal S48x1x1920 .f32) (v26 : FVec Ideal S48x256x1920 .f32) (v31 : FVec Ideal S48x256x1920 .f32) (v65 : FVec Ideal S1920x7680 .fp8e4m3) (v66 : FVec Ideal S7680 .f32) (b : Fin 48) (r : Fin 256) (n : Fin 7680) :
    k0_pay9 (F := Ideal) v2 v3 v26 v31 v65 v66 (ix3 b r n) = (∑ k, k0_pay8 (F := Ideal) v2 v3 v26 v31 (ix3 b r k) * v65 (ix2 k n)) * k0_pay7 (F := Ideal) v2 v3 v26 v31 (ix3 b r 0) * v66 (ix1 n) :=
  mm_1 _ _ _ _ b r n

theorem q9 (v2 : FVec Ideal S48x1x1920 .f32) (v3 : FVec Ideal S48x1x1920 .f32) (v26 : FVec Ideal S48x256x1920 .f32) (v31 : FVec Ideal S48x256x1920 .f32) (v65 : FVec Ideal S1920x7680 .fp8e4m3) (v66 : FVec Ideal S7680 .f32)
    (hm : ∀ (b : Fin 48) (r : Fin 256) (n : Fin 1920), v31 (ix3 b r n) = mean (fun n => v26 (ix3 b r n))) (b : Fin 48) (r : Fin 256) (n : Fin 7680) :
    k0_pay9 (F := Ideal) v2 v3 v26 v31 v65 v66 (ix3 b r n) = (∑ k, tcode (lnv (fun n => v26 (ix3 b r n)) (fun n => v2 (ix3 b 0 n)) (fun n => v3 (ix3 b 0 n)) k) (tsc (amax (lnv (fun n => v26 (ix3 b r n)) (fun n => v2 (ix3 b 0 n)) (fun n => v3 (ix3 b 0 n))))) * v65 (ix2 k n)) * tsc (amax (lnv (fun n => v26 (ix3 b r n)) (fun n => v2 (ix3 b 0 n)) (fun n => v3 (ix3 b 0 n)))) * v66 (ix1 n) := by
  simp only [a9, q7 _ _ _ _ hm, q8 _ _ _ _ hm]

theorem q10 (v67 : FVec Ideal S7680 .f32) (n : Fin 7680) :
    k0_pay10 (F := Ideal) v67 (ix3 0 0 n) = v67 (ix1 n) := by
  pointwise [k0_pay10]

theorem q11 (v75 : FVec Ideal S48x256x7680 .f32) (v76 : FVec Ideal S1x1x7680 .f32) (b : Fin 48) (r : Fin 256) (n : Fin 7680) :
    k0_pay11 (F := Ideal) v75 v76 (ix3 b r n) = gel (v75 (ix3 b r n) + v76 (ix3 0 0 n)) := by
  pointwise [k0_pay11]
  rw [q_named_c, q_named_c3]
  rfl

theorem a12 (v75 : FVec Ideal S48x256x7680 .f32) (v76 : FVec Ideal S1x1x7680 .f32) (b : Fin 48) (r : Fin 256) :
    k0_pay12 (F := Ideal) v75 v76 (ix3 b r 0) = tsc (amax (fun n => k0_pay11 (F := Ideal) v75 v76 (ix3 b r n))) :=
  (scal _ b r).trans (congrArg tsc (red_2 _ b r))

theorem q12 (v75 : FVec Ideal S48x256x7680 .f32) (v76 : FVec Ideal S1x1x7680 .f32) (b : Fin 48) (r : Fin 256) :
    k0_pay12 (F := Ideal) v75 v76 (ix3 b r 0) = tsc (amax (fun n => gel (v75 (ix3 b r n) + v76 (ix3 0 0 n)))) := by
  exact (a12 _ _ b r).trans (congrArg (fun f => tsc (amax f)) (funext fun n => q11 _ _ b r n))

theorem a13 (v75 : FVec Ideal S48x256x7680 .f32) (v76 : FVec Ideal S1x1x7680 .f32) (b : Fin 48) (r : Fin 256) (n : Fin 7680) :
    k0_pay13 (F := Ideal) v75 v76 (ix3 b r n) = tcode (k0_pay11 (F := Ideal) v75 v76 (ix3 b r n)) (k0_pay12 (F := Ideal) v75 v76 (ix3 b r 0)) :=
  cod_2 _ _ b r n

theorem q13 (v75 : FVec Ideal S48x256x7680 .f32) (v76 : FVec Ideal S1x1x7680 .f32) (b : Fin 48) (r : Fin 256) (n : Fin 7680) :
    k0_pay13 (F := Ideal) v75 v76 (ix3 b r n) = tcode (gel (v75 (ix3 b r n) + v76 (ix3 0 0 n))) (tsc (amax (fun n => gel (v75 (ix3 b r n) + v76 (ix3 0 0 n))))) := by
  exact (a13 _ _ b r n).trans (congrArg₂ tcode (q11 _ _ b r n) (q12 _ _ b r))

theorem a14 (v75 : FVec Ideal S48x256x7680 .f32) (v76 : FVec Ideal S1x1x7680 .f32) (v109 : FVec Ideal S7680x1920 .fp8e4m3) (v110 : FVec Ideal S1920 .f32) (b : Fin 48) (r : Fin 256) (n : Fin 1920) :
    k0_pay14 (F := Ideal) v75 v76 v109 v110 (ix3 b r n) = (∑ k, k0_pay13 (F := Ideal) v75 v76 (ix3 b r k) * v109 (ix2 k n)) * k0_pay12 (F := Ideal) v75 v76 (ix3 b r 0) * v110 (ix1 n) :=
  mm_2 _ _ _ _ b r n

theorem q14 (v75 : FVec Ideal S48x256x7680 .f32) (v76 : FVec Ideal S1x1x7680 .f32) (v109 : FVec Ideal S7680x1920 .fp8e4m3) (v110 : FVec Ideal S1920 .f32) (b : Fin 48) (r : Fin 256) (n : Fin 1920) :
    k0_pay14 (F := Ideal) v75 v76 v109 v110 (ix3 b r n) = (∑ k, tcode (gel (v75 (ix3 b r k) + v76 (ix3 0 0 k))) (tsc (amax (fun n => gel (v75 (ix3 b r n) + v76 (ix3 0 0 n))))) * v109 (ix2 k n)) * tsc (amax (fun n => gel (v75 (ix3 b r n) + v76 (ix3 0 0 n)))) * v110 (ix1 n) := by
  simp only [a14, q12, q13]

theorem q15 (v111 : FVec Ideal S1920 .f32) (b : Fin 48) (r : Fin 256) (n : Fin 1920) :
    k0_pay15 (F := Ideal) v111 (ix3 b r n) = v111 (ix1 n) := by
  pointwise [k0_pay15]

theorem q1 (v1 : FVec Ideal S48x1x1920 .f32) (v26 : FVec Ideal S48x256x1920 .f32) (v119 : FVec Ideal S48x256x1920 .f32) (v121 : FVec Ideal S48x256x1920 .f32) (b : Fin 48) (r : Fin 256) (n : Fin 1920) :
    k0_pay1 (F := Ideal) v1 v26 v119 v121 (ix3 b r n) = v26 (ix3 b r n) + v1 (ix3 b 0 n) * (v119 (ix3 b r n) + v121 (ix3 b r n)) := by
  pointwise [k0_pay1]

theorem q2 (v57 : FVec Ideal S48x256x1 .f32) (b : Fin 48) (r : Fin 256) :
    k0_pay2 (F := Ideal) v57 (ix2 b r) = v57 (ix3 b r 0) := by
  pointwise [k0_pay2]

theorem q3 (v101 : FVec Ideal S48x256x1 .f32) (b : Fin 48) (r : Fin 256) :
    k0_pay3 (F := Ideal) v101 (ix2 b r) = v101 (ix3 b r 0) := by
  pointwise [k0_pay3]

end Cert.FfnRefIdeal.Hand

end
-- ==== Proof.FfnRefVal.lean ====
/- The arrays the reference leaves, as the rows' values. -/
module

public import proofs.«01_k».proof.Proof.FfnRefPay
public import proofs.«01_k».proof.Proof.FfnArr
public import proofs.«01_k».proof.Proof.Gen.FfnRefIdeal.Frame
public import Idealize.ShloMosaic.Lib.Pipeline.ValueKit

@[expose] public section

set_option maxRecDepth 16384

noncomputable section

namespace Cert.FfnRefIdeal.Hand

open Idealize.ShloMosaic Idealize.ShloMosaic.TcCoe Idealize.SL.Sem
open Idealize.ShloMosaic.Pipeline (Dat)
open Cert.FfnRefIdeal Cert.FfnRefIdeal.Gen
open Cert.FfnSpec (Row Wts lin gel amax tsc tcode lnv mean mid ln s2 c2 g hs hc y rowOf wtsOf)

/-- One of the six vectors of a batch. -/
theorem ldAda (x1 : Vec Ideal S48x6x1920 .f32) (k : Fin 6) (inb : ∀ a, (![0, k.val, 0] : Fin 3 → ℕ) a + S48x1x1920.size a ≤ S48x6x1920.size a) (b : Fin 48) (n : Fin 1920) :
    View.ld x1 (Rect.unit (s := S48x6x1920) ![0, k.val, 0] S48x1x1920.size inb) (ix3 b 0 n) = x1 (ix3 b k n) := by
  refine congrArg x1 (funext fun a => ?_)
  refine Fin.cases ?_ (fun a => Fin.cases ?_ (fun a => Fin.cases ?_ (fun a => a.elim0) a) a) a
  · exact Fin.ext (by show 0 + 1 * b.val = b.val; omega)
  · exact Fin.ext (by show k.val + 1 * 0 = k.val; omega)
  · exact Fin.ext (by show 0 + 1 * n.val = n.val; omega)

theorem v16 (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 1920) :
    k0_pay16 (F := Ideal) x0 x1 x2 x3 x4 x5 x6 x7 x8 x9 x10 x11 x12 (ix3 b r n) = mid (rowOf x0 x1 x2 x3 b r) (wtsOf x4 x5 x6 x7 x8 x9 x10 x11 x12) n := by
  unfold k0_pay16
  frame_out
  refine (q4 _ _ _ _ _ _ _ b r n).trans ?_
  rw [show View.ld x1 r0_0 (ix3 b 0 n) = x1 (ix3 b 0 n) from ldAda x1 0 _ b n]
  rfl

theorem v17 (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 1920) :
    k0_pay17 (F := Ideal) x0 x1 x2 x3 x4 x5 x6 x7 x8 x9 x10 x11 x12 (ix3 b r n) = mean (mid (rowOf x0 x1 x2 x3 b r) (wtsOf x4 x5 x6 x7 x8 x9 x10 x11 x12)) := by
  exact (q5 _ _ _ _ _ _ _ b r n).trans (congrArg mean (funext fun n => v16 x0 x1 x2 x3 x4 x5 x6 x7 x8 x9 x10 x11 x12 b r n))

theorem hm (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 1920) :
    k0_pay17 (F := Ideal) x0 x1 x2 x3 x4 x5 x6 x7 x8 x9 x10 x11 x12 (ix3 b r n) = mean (fun n => k0_pay16 (F := Ideal) x0 x1 x2 x3 x4 x5 x6 x7 x8 x9 x10 x11 x12 (ix3 b r n)) := by
  exact q5 _ _ _ _ _ _ _ b r n

theorem lnE (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) :
    lnv (fun n => k0_pay16 (F := Ideal) x0 x1 x2 x3 x4 x5 x6 x7 x8 x9 x10 x11 x12 (ix3 b r n)) (fun n => View.ld x1 r0_2 (ix3 b 0 n)) (fun n => View.ld x1 r0_3 (ix3 b 0 n)) = ln (rowOf x0 x1 x2 x3 b r) (wtsOf x4 x5 x6 x7 x8 x9 x10 x11 x12) := by
  simp only [v16]
  rw [show (fun n : Fin 1920 => View.ld x1 r0_2 (ix3 b 0 n)) = (rowOf x0 x1 x2 x3 b r).sc from funext fun n => ldAda x1 3 _ b n, show (fun n : Fin 1920 => View.ld x1 r0_3 (ix3 b 0 n)) = (rowOf x0 x1 x2 x3 b r).sh from funext fun n => ldAda x1 5 _ b n]
  rfl

theorem s2E (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) :
    k0_pay7 (F := Ideal) (View.ld x1 r0_2) (View.ld x1 r0_3) (k0_pay16 x0 x1 x2 x3 x4 x5 x6 x7 x8 x9 x10 x11 x12) (k0_pay17 x0 x1 x2 x3 x4 x5 x6 x7 x8 x9 x10 x11 x12) (ix3 b r 0) = s2 (rowOf x0 x1 x2 x3 b r) (wtsOf x4 x5 x6 x7 x8 x9 x10 x11 x12) := by
  exact (q7 _ _ _ _ (hm x0 x1 x2 x3 x4 x5 x6 x7 x8 x9 x10 x11 x12) b r).trans (congrArg (fun f => tsc (amax f)) (lnE x0 x1 x2 x3 x4 x5 x6 x7 x8 x9 x10 x11 x12 b r))

theorem c2E (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 1920) :
    k0_pay8 (F := Ideal) (View.ld x1 r0_2) (View.ld x1 r0_3) (k0_pay16 x0 x1 x2 x3 x4 x5 x6 x7 x8 x9 x10 x11 x12) (k0_pay17 x0 x1 x2 x3 x4 x5 x6 x7 x8 x9 x10 x11 x12) (ix3 b r n) = c2 (rowOf x0 x1 x2 x3 b r) (wtsOf x4 x5 x6 x7 x8 x9 x10 x11 x12) n := by
  exact (q8 _ _ _ _ (hm x0 x1 x2 x3 x4 x5 x6 x7 x8 x9 x10 x11 x12) b r n).trans (congrArg (fun f => tcode (f n) (tsc (amax f))) (lnE x0 x1 x2 x3 x4 x5 x6 x7 x8 x9 x10 x11 x12 b r))

theorem gE (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 7680) :
    gel (k0_pay18 (F := Ideal) x0 x1 x2 x3 x4 x5 x6 x7 x8 x9 x10 x11 x12 (ix3 b r n) + k0_pay19 (F := Ideal) x0 x1 x2 x3 x4 x5 x6 x7 x8 x9 x10 x11 x12 (ix3 0 0 n)) = g (rowOf x0 x1 x2 x3 b r) (wtsOf x4 x5 x6 x7 x8 x9 x10 x11 x12) n := by
  have h18 : k0_pay18 (F := Ideal) x0 x1 x2 x3 x4 x5 x6 x7 x8 x9 x10 x11 x12 (ix3 b r n) = (∑ k, c2 (rowOf x0 x1 x2 x3 b r) (wtsOf x4 x5 x6 x7 x8 x9 x10 x11 x12) k * x7 (ix2 k n)) * s2 (rowOf x0 x1 x2 x3 b r) (wtsOf x4 x5 x6 x7 x8 x9 x10 x11 x12) * x8 (ix1 n) := by
    unfold k0_pay18
    frame_out
    refine (q9 _ _ _ _ x7 x8 (hm x0 x1 x2 x3 x4 x5 x6 x7 x8 x9 x10 x11 x12) b r n).trans ?_
    rw [lnE x0 x1 x2 x3 x4 x5 x6 x7 x8 x9 x10 x11 x12 b r]
    rfl
  have h19 : k0_pay19 (F := Ideal) x0 x1 x2 x3 x4 x5 x6 x7 x8 x9 x10 x11 x12 (ix3 0 0 n) = x9 (ix1 n) := by
    unfold k0_pay19
    frame_out
    exact q10 x9 n
  rw [h18, h19]
  rfl

theorem hsE (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) :
    k0_pay12 (F := Ideal) (k0_pay18 x0 x1 x2 x3 x4 x5 x6 x7 x8 x9 x10 x11 x12) (k0_pay19 x0 x1 x2 x3 x4 x5 x6 x7 x8 x9 x10 x11 x12) (ix3 b r 0) = hs (rowOf x0 x1 x2 x3 b r) (wtsOf x4 x5 x6 x7 x8 x9 x10 x11 x12) := by
  exact (q12 _ _ b r).trans (congrArg (fun f => tsc (amax f)) (funext fun n => gE x0 x1 x2 x3 x4 x5 x6 x7 x8 x9 x10 x11 x12 b r n))

theorem hcE (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 7680) :
    k0_pay13 (F := Ideal) (k0_pay18 x0 x1 x2 x3 x4 x5 x6 x7 x8 x9 x10 x11 x12) (k0_pay19 x0 x1 x2 x3 x4 x5 x6 x7 x8 x9 x10 x11 x12) (ix3 b r n) = hc (rowOf x0 x1 x2 x3 b r) (wtsOf x4 x5 x6 x7 x8 x9 x10 x11 x12) n := by
  exact (q13 _ _ b r n).trans (congrArg₂ tcode (gE x0 x1 x2 x3 x4 x5 x6 x7 x8 x9 x10 x11 x12 b r n) (congrArg (fun f => tsc (amax f)) (funext fun n => gE x0 x1 x2 x3 x4 x5 x6 x7 x8 x9 x10 x11 x12 b r n)))

theorem o13 (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 1920) :
    out0_13 (F := Ideal) x0 x1 x2 x3 x4 x5 x6 x7 x8 x9 x10 x11 x12 (ix3 b r n) = y (rowOf x0 x1 x2 x3 b r) (wtsOf x4 x5 x6 x7 x8 x9 x10 x11 x12) n := by
  unfold out0_13
  frame_out
  refine (q1 _ _ _ _ b r n).trans ?_
  rw [v16, show View.ld x1 r0_1 (ix3 b 0 n) = x1 (ix3 b 1 n) from ldAda x1 1 _ b n]
  refine congrArg (fun u => mid (rowOf x0 x1 x2 x3 b r) (wtsOf x4 x5 x6 x7 x8 x9 x10 x11 x12) n + x1 (ix3 b 1 n) * u) (congrArg₂ (· + ·) ?_ (q15 _ b r n))
  refine (q14 _ _ _ _ b r n).trans ?_
  simp only [gE]
  rfl

theorem o14 (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 1920) :
    out0_14 (F := Ideal) x0 x1 x2 x3 x4 x5 x6 x7 x8 x9 x10 x11 x12 (ix3 b r n) = c2 (rowOf x0 x1 x2 x3 b r) (wtsOf x4 x5 x6 x7 x8 x9 x10 x11 x12) n := by
  unfold out0_14
  frame_out
  exact c2E x0 x1 x2 x3 x4 x5 x6 x7 x8 x9 x10 x11 x12 b r n

theorem o15 (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) :
    out0_15 (F := Ideal) x0 x1 x2 x3 x4 x5 x6 x7 x8 x9 x10 x11 x12 (ix2 b r) = s2 (rowOf x0 x1 x2 x3 b r) (wtsOf x4 x5 x6 x7 x8 x9 x10 x11 x12) := by
  unfold out0_15
  frame_out
  exact (q2 _ b r).trans (s2E x0 x1 x2 x3 x4 x5 x6 x7 x8 x9 x10 x11 x12 b r)

theorem o16 (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) (n : Fin 7680) :
    out0_16 (F := Ideal) x0 x1 x2 x3 x4 x5 x6 x7 x8 x9 x10 x11 x12 (ix3 b r n) = hc (rowOf x0 x1 x2 x3 b r) (wtsOf x4 x5 x6 x7 x8 x9 x10 x11 x12) n := by
  unfold out0_16
  frame_out
  exact hcE x0 x1 x2 x3 x4 x5 x6 x7 x8 x9 x10 x11 x12 b r n

theorem o17 (x0 : Vec Ideal S48x256x1920 .bf16) (x1 : Vec Ideal S48x6x1920 .f32) (x2 : Vec Ideal S48x256x1920 .fp8e4m3) (x3 : Vec Ideal S48x256 .f32) (x4 : Vec Ideal S30x64x1920 .fp8e4m3) (x5 : Vec Ideal S1920 .f32) (x6 : Vec Ideal S1920 .f32) (x7 : Vec Ideal S1920x7680 .fp8e4m3) (x8 : Vec Ideal S7680 .f32) (x9 : Vec Ideal S7680 .f32) (x10 : Vec Ideal S7680x1920 .fp8e4m3) (x11 : Vec Ideal S1920 .f32) (x12 : Vec Ideal S1920 .f32) (b : Fin 48) (r : Fin 256) :
    out0_17 (F := Ideal) x0 x1 x2 x3 x4 x5 x6 x7 x8 x9 x10 x11 x12 (ix2 b r) = hs (rowOf x0 x1 x2 x3 b r) (wtsOf x4 x5 x6 x7 x8 x9 x10 x11 x12) := by
  unfold out0_17
  frame_out
  exact (q3 _ b r).trans (hsE x0 x1 x2 x3 x4 x5 x6 x7 x8 x9 x10 x11 x12 b r)

variable (m : (ℓ : Loc nD τ sig) → Buf (Elt Ideal) ℓ)

/-- The row of a token of the arguments. -/
abbrev aRow (c : Dev nD) (b : Fin 48) (r : Fin 256) : Row := rowOf (m ((c : Thread nD τ).loc main_arg0)) (m ((c : Thread nD τ).loc main_arg1)) (m ((c : Thread nD τ).loc main_arg2)) (m ((c : Thread nD τ).loc main_arg3)) b r
/-- The weights of the arguments. -/
abbrev aWts (c : Dev nD) : Wts := wtsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem blkA0 (c : Dev nD) : iblk m c 0 t0_0 = m ((c : Thread nD τ).loc main_arg0) := by
  have ha : win0_0.index t0_0 0 = 0 ∧ win0_0.index t0_0 1 = 0 ∧ win0_0.index t0_0 2 = 0 := by decide +kernel
  blk_ext! [iblk, V] <;> omega
theorem blkA1 (c : Dev nD) : iblk m c 1 t0_0 = m ((c : Thread nD τ).loc main_arg1) := by
  have ha : win0_1.index t0_0 0 = 0 ∧ win0_1.index t0_0 1 = 0 ∧ win0_1.index t0_0 2 = 0 := by decide +kernel
  blk_ext! [iblk, V] <;> omega
theorem blkA2 (c : Dev nD) : iblk m c 2 t0_0 = m ((c : Thread nD τ).loc main_arg2) := by
  have ha : win0_2.index t0_0 0 = 0 ∧ win0_2.index t0_0 1 = 0 ∧ win0_2.index t0_0 2 = 0 := by decide +kernel
  blk_ext! [iblk, V] <;> omega
theorem blkA3 (c : Dev nD) : iblk m c 3 t0_0 = m ((c : Thread nD τ).loc main_arg3) := by
  have ha : win0_3.index t0_0 0 = 0 ∧ win0_3.index t0_0 1 = 0 := by decide +kernel
  blk_ext! [iblk, V] <;> omega
theorem blkA4 (c : Dev nD) : iblk m c 4 t0_0 = m ((c : Thread nD τ).loc main_arg4) := by
  have ha : win0_4.index t0_0 0 = 0 ∧ win0_4.index t0_0 1 = 0 ∧ win0_4.index t0_0 2 = 0 := by decide +kernel
  blk_ext! [iblk, V] <;> omega
theorem blkA5 (c : Dev nD) : iblk m c 5 t0_0 = m ((c : Thread nD τ).loc main_arg5) := by
  have ha : win0_5.index t0_0 0 = 0 := by decide +kernel
  blk_ext! [iblk, V] <;> omega
theorem blkA6 (c : Dev nD) : iblk m c 6 t0_0 = m ((c : Thread nD τ).loc main_arg6) := by
  have ha : win0_6.index t0_0 0 = 0 := by decide +kernel
  blk_ext! [iblk, V] <;> omega
theorem blkA7 (c : Dev nD) : iblk m c 7 t0_0 = m ((c : Thread nD τ).loc main_arg7) := by
  have ha : win0_7.index t0_0 0 = 0 ∧ win0_7.index t0_0 1 = 0 := by decide +kernel
  blk_ext! [iblk, V] <;> omega
theorem blkA8 (c : Dev nD) : iblk m c 8 t0_0 = m ((c : Thread nD τ).loc main_arg8) := by
  have ha : win0_8.index t0_0 0 = 0 := by decide +kernel
  blk_ext! [iblk, V] <;> omega
theorem blkA9 (c : Dev nD) : iblk m c 9 t0_0 = m ((c : Thread nD τ).loc main_arg9) := by
  have ha : win0_9.index t0_0 0 = 0 := by decide +kernel
  blk_ext! [iblk, V] <;> omega
theorem blkA10 (c : Dev nD) : iblk m c 10 t0_0 = m ((c : Thread nD τ).loc main_arg10) := by
  have ha : win0_10.index t0_0 0 = 0 ∧ win0_10.index t0_0 1 = 0 := by decide +kernel
  blk_ext! [iblk, V] <;> omega
theorem blkA11 (c : Dev nD) : iblk m c 11 t0_0 = m ((c : Thread nD τ).loc main_arg11) := by
  have ha : win0_11.index t0_0 0 = 0 := by decide +kernel
  blk_ext! [iblk, V] <;> omega
theorem blkA12 (c : Dev nD) : iblk m c 12 t0_0 = m ((c : Thread nD τ).loc main_arg12) := by
  have ha : win0_12.index t0_0 0 = 0 := by decide +kernel
  blk_ext! [iblk, V] <;> omega

theorem arr13 (c : Dev nD) : (dats m 0 c).arrAt 13 (cfgs 0).N = (fun i => y (aRow m c (i 0) (i 1)) (aWts m c) (i 2)) := by
  refine (dats m 0 c).arrAt_eq_of_after_last 13 t0_0 (by decide +kernel) _ fun j => ?_
  blk_simp
  rw [after0_13, blkA0, blkA1, blkA2, blkA3, blkA4, blkA5, blkA6, blkA7, blkA8, blkA9, blkA10, blkA11, blkA12]
  idx_vars j
  exact o13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) j0 j1 j2

theorem arr14 (c : Dev nD) : (dats m 0 c).arrAt 14 (cfgs 0).N = (fun i => c2 (aRow m c (i 0) (i 1)) (aWts m c) (i 2)) := by
  refine (dats m 0 c).arrAt_eq_of_after_last 14 t0_0 (by decide +kernel) _ fun j => ?_
  blk_simp
  rw [after0_14, blkA0, blkA1, blkA2, blkA3, blkA4, blkA5, blkA6, blkA7, blkA8, blkA9, blkA10, blkA11, blkA12]
  idx_vars j
  exact o14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) j0 j1 j2

theorem arr15 (c : Dev nD) : (dats m 0 c).arrAt 15 (cfgs 0).N = (fun i => s2 (aRow m c (i 0) (i 1)) (aWts m c)) := by
  refine (dats m 0 c).arrAt_eq_of_after_last 15 t0_0 (by decide +kernel) _ fun j => ?_
  blk_simp
  rw [after0_15, blkA0, blkA1, blkA2, blkA3, blkA4, blkA5, blkA6, blkA7, blkA8, blkA9, blkA10, blkA11, blkA12]
  idx_vars j
  exact o15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) j0 j1

theorem arr16 (c : Dev nD) : (dats m 0 c).arrAt 16 (cfgs 0).N = (fun i => hc (aRow m c (i 0) (i 1)) (aWts m c) (i 2)) := by
  refine (dats m 0 c).arrAt_eq_of_after_last 16 t0_0 (by decide +kernel) _ fun j => ?_
  blk_simp
  rw [after0_16, blkA0, blkA1, blkA2, blkA3, blkA4, blkA5, blkA6, blkA7, blkA8, blkA9, blkA10, blkA11, blkA12]
  idx_vars j
  exact o16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) j0 j1 j2

theorem arr17 (c : Dev nD) : (dats m 0 c).arrAt 17 (cfgs 0).N = (fun i => hs (aRow m c (i 0) (i 1)) (aWts m c)) := by
  refine (dats m 0 c).arrAt_eq_of_after_last 17 t0_0 (by decide +kernel) _ fun j => ?_
  blk_simp
  rw [after0_17, blkA0, blkA1, blkA2, blkA3, blkA4, blkA5, blkA6, blkA7, blkA8, blkA9, blkA10, blkA11, blkA12]
  idx_vars j
  exact o17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) j0 j1

end Cert.FfnRefIdeal.Hand

end
-- ==== Proof.QkvBitsRun.lean ====
/- The body of the kernel as printed, run once at one grid point. -/
module

public import proofs.«01_k».proof.Proof.Gen.Qkv.Frame
public import proofs.«01_k».proof.Proof.Gen.Qkv.Skeleton

@[expose] public section

-- membership in a rectangle of production extents (`View.cover_of_tiled`): the elaborator's structural look
-- recurses once per coordinate of the long axes
set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the staging buffers of the codes and of the scales, as pieces (last first), with
    the proof that the body, on the inputs' contents and any others, ends with exactly these pieces written. The
    scales' buffer keeps what it held outside its piece; the other four outputs' buffers end with some contents. -/
noncomputable def qkvRun (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x128 .f32) (harg4 : arg4.IsWhole) (arg5 : Memref sig .tc .vmem S5760x128 .f32) (harg5 : arg5.IsWhole) (arg6 : Memref sig .tc .smem S30 .f32) (harg6 : arg6.IsWhole) (arg7 : Memref sig .tc .vmem S1x256x1920 .fp8e4m3) (harg7 : arg7.IsWhole) (arg8 : Memref sig .tc .vmem S48x256 .f32) (harg8 : arg8.IsWhole) (arg9 : Memref sig .tc .vmem S1x30x64x256 .bf16) (harg9 : arg9.IsWhole) (arg10 : Memref sig .tc .vmem S1x30x64x256 .i8) (harg10 : arg10.IsWhole) (arg11 : Memref sig .tc .vmem S1x30x32x256 .i8) (harg11 : arg11.IsWhole) (arg12 : Memref sig .tc .vmem S1x30x2x256 .f32) (harg12 : arg12.IsWhole)
    (x0 : Vec F S1x256x1920 .bf16) (x1 : Vec F S6x48x1920 .f32) (x2 : Vec F S5760x1920 .fp8e4m3) (x3 : Vec F S5760x128 .f32) (x4 : Vec F S5760x128 .f32) (x5 : Vec F S30 .f32) :
    Σ' (L6 : List (View.Piece (Elt F) S1x256x1920 .fp8e4m3)), { L7 : List (View.Piece (Elt F) S48x256 .f32) //
      ∀ (E : Set ℕ) (x7 : Vec F S48x256 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread x7) L7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, ?_, fun E x7 K => ?run⟩
  case run =>
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    isplitl [H8]
    · iexists _, _; isplitr
      swap; · iexact H8
      ipureintro; rfl
    isplitl [H9]
    · iexists _, _; isplitr
      swap; · iexact H9
      ipureintro; rfl
    isplitl [H10]
    · iexists _, _; isplitr
      swap; · iexact H10
      ipureintro; rfl
    iexists _, _; isplitr
    swap; · iexact H11
    ipureintro; rfl

end Cert.Qkv.Hand

end
-- ==== Proof.QkvBitsBody.lean ====
/- The proof data, the launch and the frame of the kernel as printed. -/
module

public import proofs.«01_k».proof.Proof.QkvBitsRun
public import Idealize.ShloMosaic.Lib.Claim
public import Idealize.ShloMosaic.Lib.Pipeline.DatRel
public import Idealize.ShloMosaic.Lib.Pointwise

@[expose] public section

-- membership in a rectangle of production extents (`View.cover_of_tiled`): the elaborator's structural look
-- recurses once per coordinate of the long axes
set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 6, through which its contents are stated (`View.read_writes_of_cover`: the
    choice does not matter). -/
abbrev VO0_6 : View sig .tc .vmem S1x256x1920 .fp8e4m3 := (Memref.whole cc0_stg6_0 : Memref sig .tc .vmem S1x256x1920 .fp8e4m3).view
/-- One staging buffer of output window 7, through which its contents are stated (`View.read_writes_of_cover`: the
    choice does not matter). -/
abbrev VO0_7 : View sig .tc .vmem S48x256 .f32 := (Memref.whole cc0_stg7_0 : Memref sig .tc .vmem S48x256 .f32).view
/-- One staging buffer of output window 8, through which its contents are stated (`View.read_writes_of_cover`: the
    choice does not matter). -/
abbrev VO0_8 : View sig .tc .vmem S1x30x64x256 .bf16 := (Memref.whole cc0_stg8_0 : Memref sig .tc .vmem S1x30x64x256 .bf16).view
/-- One staging buffer of output window 9, through which its contents are stated (`View.read_writes_of_cover`: the
    choice does not matter). -/
abbrev VO0_9 : View sig .tc .vmem S1x30x64x256 .i8 := (Memref.whole cc0_stg9_0 : Memref sig .tc .vmem S1x30x64x256 .i8).view
/-- One staging buffer of output window 10, through which its contents are stated (`View.read_writes_of_cover`: the
    choice does not matter). -/
abbrev VO0_10 : View sig .tc .vmem S1x30x32x256 .i8 := (Memref.whole cc0_stg10_0 : Memref sig .tc .vmem S1x30x32x256 .i8).view
/-- One staging buffer of output window 11, through which its contents are stated (`View.read_writes_of_cover`: the
    choice does not matter). -/
abbrev VO0_11 : View sig .tc .vmem S1x30x2x256 .f32 := (Memref.whole cc0_stg11_0 : Memref sig .tc .vmem S1x30x2x256 .f32).view
/-- Each window's current staging memref at point `t`, spelled as the pipeline passes it (`bodyAt0`), and its wholeness. -/
abbrev ms0_0 (t : Fin cfg0.N) : Memref sig .tc .vmem S1x256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5760x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5760x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5760x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S30 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1920 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S48x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x30x64x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x30x64x256 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x30x32x256 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x30x2x256 .f32 := win0_11.stage (cfg0.slots t 11)
abbrev hs0_11 (t : Fin cfg0.N) : (ms0_11 t).IsWhole := hstage0_11 ((cfg0.slots t 11).cast nbuf0_11)

/-- The one grid coordinate of point `t` is `t`. -/
theorem coord_val : ∀ t : Fin cfg0.N, (grid0.coords t 0).val = t.val := (by decide +kernel : ∀ t : Fin grid0.N, _)

section
variable {κ : Kind} {sp : Space} (v : View sig κ sp S48x256 .f32) (f : v.ty.Contents (Elt F)) {L : List (View.Piece (Elt F) S48x256 .f32)} {o : ℕ}
  (h : ∃ (off : Fin 2 → ℕ) (inb : ∀ a, off a + S1x256.size a ≤ S48x256.size a) (p : S1x256.Idx → Elt F .f32),
    off = ![o, 0] ∧ L = [⟨Rect.unit (s := S48x256) off S1x256.size inb, p⟩]) (y : S48x256.Idx)
include h
/-- In the stored row a buffer holds the store's value, whatever it held before. -/
theorem row_hit (hy : (y 0).val = o) {κ' : Kind} {sp' : Space} (v' : View sig κ' sp' S48x256 .f32) (f' : v'.ty.Contents (Elt F)) :
    v.read (Elt F) (v.writes (Elt F) f L) y = v'.read (Elt F) (v'.writes (Elt F) f' L) y := by
  obtain ⟨off, inb, p, rfl, rfl⟩ := h
  have hx : ∀ a, (y a).val = (Rect.unit (s := S48x256) ![o, 0] S1x256.size inb).off a
      + (Rect.unit (s := S48x256) ![o, 0] S1x256.size inb).stride a * ((ix2 0 (y 1) : S1x256.Idx) a).val := by
    intro a; fin_cases a
    · show (y 0).val = o + 1 * 0; omega
    · show (y 1).val = 0 + 1 * (y 1).val; omega
  exact (View.read_writes_cons_hit_of_coords v f (Rect.unit (s := S48x256) ![o, 0] S1x256.size inb) p [] (ix2 0 (y 1) : S1x256.Idx) y hx).trans
    (View.read_writes_cons_hit_of_coords v' f' (Rect.unit (s := S48x256) ![o, 0] S1x256.size inb) p [] (ix2 0 (y 1) : S1x256.Idx) y hx).symm

/-- In every other row it keeps what it held. -/
theorem row_miss (hy : (y 0).val ≠ o) : v.read (Elt F) (v.writes (Elt F) f L) y = v.read (Elt F) f y := by
  obtain ⟨off, inb, p, rfl, rfl⟩ := h
  rw [View.read_writes_cons_miss_of_axis v f _ [] y 0 o 1 rfl rfl rfl (by omega)]; rfl
end

/-- The body's run at grid point `t`: at the point's staging buffers and the inputs' blocks. -/
noncomputable def ptRun (c : Dev nD) (t : Fin cfg0.N) := qkvRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t)

/-- The stores of the codes cover their block. -/
theorem cover6 (c : Dev nD) (t : Fin cfg0.N) (y : S1x256x1920.Idx) : ∃ pc ∈ (ptRun m c t).1, y ∈ pc.1.set :=
  View.cover_of_tiledL (ptRun m c t).1 S1x256x1920.size (by sl_kernel_rfl) y

/-- What the run at point `t` leaves in the codes' block, read over junk. -/
noncomputable def out6 (c : Dev nD) (t : Fin cfg0.N) : Vec F S1x256x1920 .fp8e4m3 := VO0_6.read (Elt F) (VO0_6.writes (Elt F) VO0_6.junk (ptRun m c t).1)

/-- The only store of the scales at point `t` is the row `t` of their block. -/
theorem row7 (c : Dev nD) (t : Fin cfg0.N) : ∃ (off : Fin 2 → ℕ) (inb : ∀ a, off a + S1x256.size a ≤ S48x256.size a) (p : S1x256.Idx → Elt F .f32),
    off = ![t.val, 0] ∧ (ptRun m c t).2.1 = [⟨Rect.unit (s := S48x256) off S1x256.size inb, p⟩] :=
  ⟨k0_off3 (grid0.coords t), k0_off3_inb _, _, by rw [k0_off3_eq, coord_val], rfl⟩

/-- What the run at point `t` leaves in the scales' block, read over junk. -/
noncomputable def out7 (c : Dev nD) (t : Fin cfg0.N) : Vec F S48x256 .f32 := VO0_7.read (Elt F) (VO0_7.writes (Elt F) VO0_7.junk (ptRun m c t).2.1)

/-- The windows whose buffers are held to a relation: the scales, filled row by row, and the four outputs of which
    nothing is claimed. -/
def rows : Fin cfg0.W → Bool := fun w => decide (w.val = 7) || decide (w.val = 8) || decide (w.val = 9) || decide (w.val = 10) || decide (w.val = 11)

/-- The proof data: each input's buffer at its block, the codes' at what the run leaves. The other outputs' buffers
    are held to `Rel` below instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => VO0_8.read (Elt F) VO0_8.junk
    | ⟨9, _⟩ => VO0_9.read (Elt F) VO0_9.junk
    | ⟨10, _⟩ => VO0_10.read (Elt F) VO0_10.junk
    | ⟨11, _⟩ => VO0_11.read (Elt F) VO0_11.junk
    | ⟨_ + 12, h⟩ => absurd h (Nat.not_lt.2 (Nat.le_add_left _ _))
  Φ _ := Pipeline.ΦA spec0 c
  q _ := fullShare
  owed _ := 0

/-- What the scales' buffer holds after point `t`: in each row up to `t`, what that row's point stored. -/
def Rel (c : Dev nD) (w : Fin cfg0.W) (t : Fin cfg0.N) : ((cfg0.win w).block.Idx → Elt F (cfg0.win w).elt) → Prop :=
  match w with
  | ⟨7, _⟩ => fun X => ∀ (r : Fin cfg0.N) (y : S48x256.Idx), r ≤ t → (y 0).val = r.val → X y = out7 m c r y
  | _ => fun _ => True

/-- The relational proof data. -/
def rdat (c : Dev nD) := (dats m 0 c).toRRel rows (Rel m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body may find in the scales' buffer: the rows of the points before. -/
theorem found7 (c : Dev nD) (t : Fin cfg0.N) (Y) (h : (rdat m c).Finds 7 t Y) (r : Fin cfg0.N) (y : S48x256.Idx) (hr : r < t)
    (hy : (y 0).val = r.val) : Y y = out7 m c r y := by
  have hN : cfg0.N = 48 := N_0
  have ht : t.val ≠ 0 := by have := hr; rw [Fin.lt_def] at this; omega
  rcases ((rdat m c).finds_of_pos (w := 7) rfl ht Y).mp h with hf | hl
  · exact absurd ((flush0_7 _).mp hf) (by have := t.isLt; show ¬ ((t.val - 1) % 48 = 47); omega)
  · have hR : Rel m c 7 _ Y := (dats m 0 c).toRRel_leaves (by rfl) hl
    exact hR r y (by rw [Fin.lt_def] at hr; show r.val ≤ t.val - 1; omega) hy

/-- With its row stored, the scales' buffer holds the rows up to `t`. -/
theorem left7 (c : Dev nD) (t : Fin cfg0.N) (Y) (h : (rdat m c).Finds 7 t Y) :
    Rel m c 7 t ((ms0_7 t).view.read (Elt F) ((ms0_7 t).view.writes (Elt F) ((hs0_7 t).unread Y) (ptRun m c t).2.1)) := by
  intro r y hr hy
  by_cases e : r = t
  · subst e; exact row_hit _ _ (row7 m c r) y hy _ _
  · rw [row_miss _ _ (row7 m c t) y (by rw [hy]; exact fun h => e (Fin.ext h)), (hs0_7 t).read_unread]
    exact found7 m c t Y h r y (lt_of_le_of_ne hr e) hy

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rel m c 7 t X⌝ ∗ owns (c : Thread nD τ) (ms0_7 t) fullShare X)
    ∗ (∃ X, ⌜Rel m c 8 t X⌝ ∗ owns (c : Thread nD τ) (ms0_8 t) fullShare X)
    ∗ (∃ X, ⌜Rel m c 9 t X⌝ ∗ owns (c : Thread nD τ) (ms0_9 t) fullShare X)
    ∗ (∃ X, ⌜Rel m c 10 t X⌝ ∗ owns (c : Thread nD τ) (ms0_10 t) fullShare X)
    ∗ (∃ X, ⌜Rel m c 11 t X⌝ ∗ owns (c : Thread nD τ) (ms0_11 t) fullShare X))

set_option maxHeartbeats 2000000 in
/-- The body at any point: the inputs' memrefs hold their blocks (`before0_W`); so the run applies; the invariant and
    what the core owes (nothing) pass by. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold out6
  iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, -, H8⟩, ⟨%Y9, -, H9⟩, ⟨%Y10, -, H10⟩, ⟨%Y11, -, H11⟩⟩
  iapply ((ptRun m c t).2.2 Set.univ Y7 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, ⟨%e6, H6⟩, H7, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 m c t)
  isplitl [H7]
  · iexists _; isplitr
    swap
    · unfold owns; iexists _; isplitr
      swap; · iexact H7
      ipureintro; rfl
    ipureintro; exact left7 m c t Y7 hY7
  isplitl [H8]
  · iexists _; isplitr
    swap; · iexact H8
    ipureintro; trivial
  isplitl [H9]
  · iexists _; isplitr
    swap; · iexact H9
    ipureintro; trivial
  isplitl [H10]
  · iexists _; isplitr
    swap; · iexact H10
    ipureintro; trivial
  iexists _; isplitr
  swap; · iexact H11
  ipureintro; trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : Pipeline.BodyObligationRel (dats (F := F) m 0 c) (defs₀ (F := F)) Variants.none () Set.univ rows (Rel m c) := fun t => by
  rw [bigSep_W0, bigSep_W0, defs₀_row]
  exact triple_restated (sound_body m c t) rfl .rfl fun _ => .rfl

set_option backward.isDefEq.respectTransparency.types false in
/-- The launch: what every final state's arrays hold, and every semaphore counter at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := fun c w => A_eq m c w) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r (h : Pipeline.RDat.FramePost (cfgs 0) (rdat m) (V m) r) c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) ((θ_run defs _ _).mono (fun _ h => h.1) (run_main m ρ))

/-- The frame claim: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main m ρ))

end Cert.Qkv.Hand

end
-- ==== Proof.QkvSpec.lean ====
/- One row of the first layer norm and its quantisation, over the extended reals. -/
module

public import proofs.«01_k».proof.Proof.FfnSpec

@[expose] public section

set_option maxRecDepth 16384

noncomputable section

namespace Cert.QkvSpec

open Idealize.ShloMosaic Idealize.ShloMosaic.TcCoe Idealize.SL.Sem
open Cert.FfnSpec (amax tsc tcode lnv)

/-- One row of the modulated layer norm of batch `b`: its scale is the third of the batch's six vectors, its shift the fifth. -/
def ln1 (x0 : FVec Ideal ⟨3, ![48, 256, 1920]⟩ .bf16) (x1 : FVec Ideal ⟨3, ![48, 6, 1920]⟩ .f32) (b : Fin 48) (r : Fin 256) (n : Fin 1920) : EReal :=
  lnv (fun n => x0 (ix3 b r n)) (fun n => x1 (ix3 b 2 n)) (fun n => x1 (ix3 b 4 n)) n
/-- The row's scale. -/
def s1 (x0 : FVec Ideal ⟨3, ![48, 256, 1920]⟩ .bf16) (x1 : FVec Ideal ⟨3, ![48, 6, 1920]⟩ .f32) (b : Fin 48) (r : Fin 256) : EReal :=
  tsc (amax (ln1 x0 x1 b r))
/-- The row's codes. -/
def c1 (x0 : FVec Ideal ⟨3, ![48, 256, 1920]⟩ .bf16) (x1 : FVec Ideal ⟨3, ![48, 6, 1920]⟩ .f32) (b : Fin 48) (r : Fin 256) (n : Fin 1920) : EReal :=
  tcode (ln1 x0 x1 b r n) (s1 x0 x1 b r)

end Cert.QkvSpec

end
-- ==== Proof.QkvPay.lean ====
/- The kernel's layer norm and its quantisation, read at an index. -/
module

public import proofs.«01_k».proof.Proof.Gen.QkvIdeal.Skeleton
public import proofs.«01_k».proof.Proof.QkvSpec

@[expose] public section

set_option maxRecDepth 16384

noncomputable section

namespace Cert.QkvIdeal.Hand

open Idealize.ShloMosaic Idealize.ShloMosaic.TcCoe Idealize.SL.Sem
open Cert.QkvIdeal Cert.QkvIdeal.Gen
open Cert.FfnSpec (amax tsc tcode lnv)

theorem p2 (v1 v4 : FVec Ideal S1x1x1920 .f32) (v6 : FVec Ideal S1x256x1920 .bf16) (r : Fin 256) (n : Fin 1920) :
    k0_pay2 (F := Ideal) v1 v4 v6 (ix2 r n) = lnv (fun n => v6 (ix3 0 r n)) (fun n => v1 (ix3 0 0 n)) (fun n => v4 (ix3 0 0 n)) n := by
  pointwise [k0_pay2]
  rw [lnv, ← Cert.FfnSpec.mul_div_one (Cert.FfnSpec.sd_ne _)]
  rfl

theorem p3 (v1 v4 : FVec Ideal S1x1x1920 .f32) (v6 : FVec Ideal S1x256x1920 .bf16) (r : Fin 256) :
    k0_pay3 (F := Ideal) v1 v4 v6 (ix2 r 0) = amax (lnv (fun n => v6 (ix3 0 r n)) (fun n => v1 (ix3 0 0 n)) (fun n => v4 (ix3 0 0 n))) := by
  pointwise [k0_pay3]
  simp only [p2]
  rfl

theorem p7 (v1 v4 : FVec Ideal S1x1x1920 .f32) (v6 : FVec Ideal S1x256x1920 .bf16) (r : Fin 256) :
    k0_pay7 (F := Ideal) (k0_pay4 (F := Ideal) v1 v4 v6) (k0_pay5 (F := Ideal) v1 v4 v6) (k0_pay6 (F := Ideal)) (ix2 r 0) = tsc (amax (lnv (fun n => v6 (ix3 0 r n)) (fun n => v1 (ix3 0 0 n)) (fun n => v4 (ix3 0 0 n)))) := by
  pointwise [k0_pay7, k0_pay4, k0_pay5, k0_pay6]
  rw [p3]
  rfl

theorem p8 (v1 v4 : FVec Ideal S1x1x1920 .f32) (v6 : FVec Ideal S1x256x1920 .bf16) (r : Fin 256) (n : Fin 1920) :
    k0_pay8 (F := Ideal) (k0_pay2 (F := Ideal) v1 v4 v6) (k0_pay4 (F := Ideal) v1 v4 v6) (k0_pay5 (F := Ideal) v1 v4 v6) (k0_pay6 (F := Ideal)) (ix2 r n)
      = tcode (lnv (fun n => v6 (ix3 0 r n)) (fun n => v1 (ix3 0 0 n)) (fun n => v4 (ix3 0 0 n)) n) (tsc (amax (lnv (fun n => v6 (ix3 0 r n)) (fun n => v1 (ix3 0 0 n)) (fun n => v4 (ix3 0 0 n))))) := by
  pointwise [k0_pay8]
  rw [p2, p7, Cert.FfnSpec.mul_div_one (Cert.FfnSpec.tsc_ne _)]
  rfl

/-- The codes that the body stores. -/
theorem p9 (v1 v4 : FVec Ideal S1x1x1920 .f32) (v6 : FVec Ideal S1x256x1920 .bf16) (r : Fin 256) (n : Fin 1920) :
    k0_pay9 (F := Ideal) (k0_pay2 (F := Ideal) v1 v4 v6) (k0_pay4 (F := Ideal) v1 v4 v6) (k0_pay5 (F := Ideal) v1 v4 v6) (k0_pay6 (F := Ideal)) (ix3 0 r n)
      = tcode (lnv (fun n => v6 (ix3 0 r n)) (fun n => v1 (ix3 0 0 n)) (fun n => v4 (ix3 0 0 n)) n) (tsc (amax (lnv (fun n => v6 (ix3 0 r n)) (fun n => v1 (ix3 0 0 n)) (fun n => v4 (ix3 0 0 n))))) := by
  pointwise [k0_pay9]
  exact p8 _ _ _ r n

/-- The scales that the body stores. -/
theorem p10 (v1 v4 : FVec Ideal S1x1x1920 .f32) (v6 : FVec Ideal S1x256x1920 .bf16) (r : Fin 256) :
    k0_pay10 (F := Ideal) (k0_pay4 (F := Ideal) v1 v4 v6) (k0_pay5 (F := Ideal) v1 v4 v6) (k0_pay6 (F := Ideal)) (ix2 0 r) = tsc (amax (lnv (fun n => v6 (ix3 0 r n)) (fun n => v1 (ix3 0 0 n)) (fun n => v4 (ix3 0 0 n)))) := by
  pointwise [k0_pay10]
  exact p7 _ _ _ r

end Cert.QkvIdeal.Hand

end
-- ==== Proof.QkvRun.lean ====
/- The kernel's body at one grid point, run once: the pieces that its stores leave are found by the run. -/
module

public import proofs.«01_k».proof.Proof.Gen.QkvIdeal.Frame
public import proofs.«01_k».proof.Proof.Gen.QkvIdeal.Skeleton

@[expose] public section

-- membership in a rectangle of production extents (`View.cover_of_tiled`): the elaborator's structural look
-- recurses once per coordinate of the long axes
set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the staging buffers of the codes and of the scales, as pieces (last first), with
    the proof that the body, on the inputs' contents and any others, ends with exactly these pieces written. The
    scales' buffer keeps what it held outside its piece; the other four outputs' buffers end with some contents. -/
noncomputable def qkvRun (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x128 .f32) (harg4 : arg4.IsWhole) (arg5 : Memref sig .tc .vmem S5760x128 .f32) (harg5 : arg5.IsWhole) (arg6 : Memref sig .tc .smem S30 .f32) (harg6 : arg6.IsWhole) (arg7 : Memref sig .tc .vmem S1x256x1920 .fp8e4m3) (harg7 : arg7.IsWhole) (arg8 : Memref sig .tc .vmem S48x256 .f32) (harg8 : arg8.IsWhole) (arg9 : Memref sig .tc .vmem S1x30x64x256 .bf16) (harg9 : arg9.IsWhole) (arg10 : Memref sig .tc .vmem S1x30x64x256 .i8) (harg10 : arg10.IsWhole) (arg11 : Memref sig .tc .vmem S1x30x32x256 .i8) (harg11 : arg11.IsWhole) (arg12 : Memref sig .tc .vmem S1x30x2x256 .f32) (harg12 : arg12.IsWhole)
    (x0 : Vec F S1x256x1920 .bf16) (x1 : Vec F S6x48x1920 .f32) (x2 : Vec F S5760x1920 .fp8e4m3) (x3 : Vec F S5760x128 .f32) (x4 : Vec F S5760x128 .f32) (x5 : Vec F S30 .f32) :
    Σ' (L6 : List (View.Piece (Elt F) S1x256x1920 .fp8e4m3)), { L7 : List (View.Piece (Elt F) S48x256 .f32) //
      ∀ (E : Set ℕ) (x7 : Vec F S48x256 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread x7) L7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, ?_, fun E x7 K => ?run⟩
  case run =>
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    isplitl [H8]
    · iexists _, _; isplitr
      swap; · iexact H8
      ipureintro; rfl
    isplitl [H9]
    · iexists _, _; isplitr
      swap; · iexact H9
      ipureintro; rfl
    isplitl [H10]
    · iexists _, _; isplitr
      swap; · iexact H10
      ipureintro; rfl
    iexists _, _; isplitr
    swap; · iexact H11
    ipureintro; rfl

end Cert.QkvIdeal.Hand

end
-- ==== Proof.QkvBody.lean ====
/- The proof data of the kernel's grid, its body obligation, its launch and its frame. -/
module

public import proofs.«01_k».proof.Proof.QkvRun
public import Idealize.ShloMosaic.Lib.Claim
public import Idealize.ShloMosaic.Lib.Pipeline.DatRel
public import Idealize.ShloMosaic.Lib.Pointwise

@[expose] public section

-- membership in a rectangle of production extents (`View.cover_of_tiled`): the elaborator's structural look
-- recurses once per coordinate of the long axes
set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 6, through which its contents are stated (`View.read_writes_of_cover`: the
    choice does not matter). -/
abbrev VO0_6 : View sig .tc .vmem S1x256x1920 .fp8e4m3 := (Memref.whole cc0_stg6_0 : Memref sig .tc .vmem S1x256x1920 .fp8e4m3).view
/-- One staging buffer of output window 7, through which its contents are stated (`View.read_writes_of_cover`: the
    choice does not matter). -/
abbrev VO0_7 : View sig .tc .vmem S48x256 .f32 := (Memref.whole cc0_stg7_0 : Memref sig .tc .vmem S48x256 .f32).view
/-- One staging buffer of output window 8, through which its contents are stated (`View.read_writes_of_cover`: the
    choice does not matter). -/
abbrev VO0_8 : View sig .tc .vmem S1x30x64x256 .bf16 := (Memref.whole cc0_stg8_0 : Memref sig .tc .vmem S1x30x64x256 .bf16).view
/-- One staging buffer of output window 9, through which its contents are stated (`View.read_writes_of_cover`: the
    choice does not matter). -/
abbrev VO0_9 : View sig .tc .vmem S1x30x64x256 .i8 := (Memref.whole cc0_stg9_0 : Memref sig .tc .vmem S1x30x64x256 .i8).view
/-- One staging buffer of output window 10, through which its contents are stated (`View.read_writes_of_cover`: the
    choice does not matter). -/
abbrev VO0_10 : View sig .tc .vmem S1x30x32x256 .i8 := (Memref.whole cc0_stg10_0 : Memref sig .tc .vmem S1x30x32x256 .i8).view
/-- One staging buffer of output window 11, through which its contents are stated (`View.read_writes_of_cover`: the
    choice does not matter). -/
abbrev VO0_11 : View sig .tc .vmem S1x30x2x256 .f32 := (Memref.whole cc0_stg11_0 : Memref sig .tc .vmem S1x30x2x256 .f32).view
/-- Each window's current staging memref at point `t`, spelled as the pipeline passes it (`bodyAt0`), and its wholeness. -/
abbrev ms0_0 (t : Fin cfg0.N) : Memref sig .tc .vmem S1x256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5760x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5760x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5760x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S30 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1920 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S48x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x30x64x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x30x64x256 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x30x32x256 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x30x2x256 .f32 := win0_11.stage (cfg0.slots t 11)
abbrev hs0_11 (t : Fin cfg0.N) : (ms0_11 t).IsWhole := hstage0_11 ((cfg0.slots t 11).cast nbuf0_11)

/-- The one grid coordinate of point `t` is `t`. -/
theorem coord_val : ∀ t : Fin cfg0.N, (grid0.coords t 0).val = t.val := (by decide +kernel : ∀ t : Fin grid0.N, _)

section
variable {κ : Kind} {sp : Space} (v : View sig κ sp S48x256 .f32) (f : v.ty.Contents (Elt F)) {L : List (View.Piece (Elt F) S48x256 .f32)} {o : ℕ}
  (h : ∃ (off : Fin 2 → ℕ) (inb : ∀ a, off a + S1x256.size a ≤ S48x256.size a) (p : S1x256.Idx → Elt F .f32),
    off = ![o, 0] ∧ L = [⟨Rect.unit (s := S48x256) off S1x256.size inb, p⟩]) (y : S48x256.Idx)
include h
/-- In the stored row a buffer holds the store's value, whatever it held before. -/
theorem row_hit (hy : (y 0).val = o) {κ' : Kind} {sp' : Space} (v' : View sig κ' sp' S48x256 .f32) (f' : v'.ty.Contents (Elt F)) :
    v.read (Elt F) (v.writes (Elt F) f L) y = v'.read (Elt F) (v'.writes (Elt F) f' L) y := by
  obtain ⟨off, inb, p, rfl, rfl⟩ := h
  have hx : ∀ a, (y a).val = (Rect.unit (s := S48x256) ![o, 0] S1x256.size inb).off a
      + (Rect.unit (s := S48x256) ![o, 0] S1x256.size inb).stride a * ((ix2 0 (y 1) : S1x256.Idx) a).val := by
    intro a; fin_cases a
    · show (y 0).val = o + 1 * 0; omega
    · show (y 1).val = 0 + 1 * (y 1).val; omega
  exact (View.read_writes_cons_hit_of_coords v f (Rect.unit (s := S48x256) ![o, 0] S1x256.size inb) p [] (ix2 0 (y 1) : S1x256.Idx) y hx).trans
    (View.read_writes_cons_hit_of_coords v' f' (Rect.unit (s := S48x256) ![o, 0] S1x256.size inb) p [] (ix2 0 (y 1) : S1x256.Idx) y hx).symm

/-- In every other row it keeps what it held. -/
theorem row_miss (hy : (y 0).val ≠ o) : v.read (Elt F) (v.writes (Elt F) f L) y = v.read (Elt F) f y := by
  obtain ⟨off, inb, p, rfl, rfl⟩ := h
  rw [View.read_writes_cons_miss_of_axis v f _ [] y 0 o 1 rfl rfl rfl (by omega)]; rfl
end

/-- The body's run at grid point `t`: at the point's staging buffers and the inputs' blocks. -/
noncomputable def ptRun (c : Dev nD) (t : Fin cfg0.N) := qkvRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t)

/-- The stores of the codes cover their block. -/
theorem cover6 (c : Dev nD) (t : Fin cfg0.N) (y : S1x256x1920.Idx) : ∃ pc ∈ (ptRun m c t).1, y ∈ pc.1.set :=
  View.cover_of_tiledL (ptRun m c t).1 S1x256x1920.size (by sl_kernel_rfl) y

/-- What the run at point `t` leaves in the codes' block, read over junk. -/
noncomputable def out6 (c : Dev nD) (t : Fin cfg0.N) : Vec F S1x256x1920 .fp8e4m3 := VO0_6.read (Elt F) (VO0_6.writes (Elt F) VO0_6.junk (ptRun m c t).1)

/-- The only store of the scales at point `t` is the row `t` of their block. -/
theorem row7 (c : Dev nD) (t : Fin cfg0.N) : ∃ (off : Fin 2 → ℕ) (inb : ∀ a, off a + S1x256.size a ≤ S48x256.size a) (p : S1x256.Idx → Elt F .f32),
    off = ![t.val, 0] ∧ (ptRun m c t).2.1 = [⟨Rect.unit (s := S48x256) off S1x256.size inb, p⟩] :=
  ⟨k0_off3 (grid0.coords t), k0_off3_inb _, _, by rw [k0_off3_eq, coord_val], rfl⟩

/-- What the run at point `t` leaves in the scales' block, read over junk. -/
noncomputable def out7 (c : Dev nD) (t : Fin cfg0.N) : Vec F S48x256 .f32 := VO0_7.read (Elt F) (VO0_7.writes (Elt F) VO0_7.junk (ptRun m c t).2.1)

/-- The windows whose buffers are held to a relation: the scales, filled row by row, and the four outputs of which
    nothing is claimed. -/
def rows : Fin cfg0.W → Bool := fun w => decide (w.val = 7) || decide (w.val = 8) || decide (w.val = 9) || decide (w.val = 10) || decide (w.val = 11)

/-- The proof data: each input's buffer at its block, the codes' at what the run leaves. The other outputs' buffers
    are held to `Rel` below instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => VO0_8.read (Elt F) VO0_8.junk
    | ⟨9, _⟩ => VO0_9.read (Elt F) VO0_9.junk
    | ⟨10, _⟩ => VO0_10.read (Elt F) VO0_10.junk
    | ⟨11, _⟩ => VO0_11.read (Elt F) VO0_11.junk
    | ⟨_ + 12, h⟩ => absurd h (Nat.not_lt.2 (Nat.le_add_left _ _))
  Φ _ := Pipeline.ΦA spec0 c
  q _ := fullShare
  owed _ := 0

/-- What the scales' buffer holds after point `t`: in each row up to `t`, what that row's point stored. -/
def Rel (c : Dev nD) (w : Fin cfg0.W) (t : Fin cfg0.N) : ((cfg0.win w).block.Idx → Elt F (cfg0.win w).elt) → Prop :=
  match w with
  | ⟨7, _⟩ => fun X => ∀ (r : Fin cfg0.N) (y : S48x256.Idx), r ≤ t → (y 0).val = r.val → X y = out7 m c r y
  | _ => fun _ => True

/-- The relational proof data. -/
def rdat (c : Dev nD) := (dats m 0 c).toRRel rows (Rel m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body may find in the scales' buffer: the rows of the points before. -/
theorem found7 (c : Dev nD) (t : Fin cfg0.N) (Y) (h : (rdat m c).Finds 7 t Y) (r : Fin cfg0.N) (y : S48x256.Idx) (hr : r < t)
    (hy : (y 0).val = r.val) : Y y = out7 m c r y := by
  have hN : cfg0.N = 48 := N_0
  have ht : t.val ≠ 0 := by have := hr; rw [Fin.lt_def] at this; omega
  rcases ((rdat m c).finds_of_pos (w := 7) rfl ht Y).mp h with hf | hl
  · exact absurd ((flush0_7 _).mp hf) (by have := t.isLt; show ¬ ((t.val - 1) % 48 = 47); omega)
  · have hR : Rel m c 7 _ Y := (dats m 0 c).toRRel_leaves (by rfl) hl
    exact hR r y (by rw [Fin.lt_def] at hr; show r.val ≤ t.val - 1; omega) hy

/-- With its row stored, the scales' buffer holds the rows up to `t`. -/
theorem left7 (c : Dev nD) (t : Fin cfg0.N) (Y) (h : (rdat m c).Finds 7 t Y) :
    Rel m c 7 t ((ms0_7 t).view.read (Elt F) ((ms0_7 t).view.writes (Elt F) ((hs0_7 t).unread Y) (ptRun m c t).2.1)) := by
  intro r y hr hy
  by_cases e : r = t
  · subst e; exact row_hit _ _ (row7 m c r) y hy _ _
  · rw [row_miss _ _ (row7 m c t) y (by rw [hy]; exact fun h => e (Fin.ext h)), (hs0_7 t).read_unread]
    exact found7 m c t Y h r y (lt_of_le_of_ne hr e) hy

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rel m c 7 t X⌝ ∗ owns (c : Thread nD τ) (ms0_7 t) fullShare X)
    ∗ (∃ X, ⌜Rel m c 8 t X⌝ ∗ owns (c : Thread nD τ) (ms0_8 t) fullShare X)
    ∗ (∃ X, ⌜Rel m c 9 t X⌝ ∗ owns (c : Thread nD τ) (ms0_9 t) fullShare X)
    ∗ (∃ X, ⌜Rel m c 10 t X⌝ ∗ owns (c : Thread nD τ) (ms0_10 t) fullShare X)
    ∗ (∃ X, ⌜Rel m c 11 t X⌝ ∗ owns (c : Thread nD τ) (ms0_11 t) fullShare X))

set_option maxHeartbeats 2000000 in
/-- The body at any point: the inputs' memrefs hold their blocks (`before0_W`); so the run applies; the invariant and
    what the core owes (nothing) pass by. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold out6
  iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, -, H8⟩, ⟨%Y9, -, H9⟩, ⟨%Y10, -, H10⟩, ⟨%Y11, -, H11⟩⟩
  iapply ((ptRun m c t).2.2 Set.univ Y7 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, ⟨%e6, H6⟩, H7, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 m c t)
  isplitl [H7]
  · iexists _; isplitr
    swap
    · unfold owns; iexists _; isplitr
      swap; · iexact H7
      ipureintro; rfl
    ipureintro; exact left7 m c t Y7 hY7
  isplitl [H8]
  · iexists _; isplitr
    swap; · iexact H8
    ipureintro; trivial
  isplitl [H9]
  · iexists _; isplitr
    swap; · iexact H9
    ipureintro; trivial
  isplitl [H10]
  · iexists _; isplitr
    swap; · iexact H10
    ipureintro; trivial
  iexists _; isplitr
  swap; · iexact H11
  ipureintro; trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : Pipeline.BodyObligationRel (dats (F := F) m 0 c) (defs₀ (F := F)) Variants.none () Set.univ rows (Rel m c) := fun t => by
  rw [bigSep_W0, bigSep_W0, defs₀_row]
  exact triple_restated (sound_body m c t) rfl .rfl fun _ => .rfl

set_option backward.isDefEq.respectTransparency.types false in
/-- The launch: what every final state's arrays hold, and every semaphore counter at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := fun c w => A_eq m c w) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r (h : Pipeline.RDat.FramePost (cfgs 0) (rdat m) (V m) r) c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) ((θ_run defs _ _).mono (fun _ h => h.1) (run_main m ρ))

/-- The frame claim: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main m ρ))

end Cert.QkvIdeal.Hand

end
-- ==== Proof.QkvVal.lean ====
/- The arrays of codes and scales that the kernel leaves, as the rows' values. -/
module

public import proofs.«01_k».proof.Proof.QkvPay
public import proofs.«01_k».proof.Proof.QkvBody
public import proofs.«01_k».proof.Proof.FfnVal
public import Idealize.ShloMosaic.Lib.Pipeline.ArrRel
public import Idealize.ShloMosaic.Lib.Pipeline.ValueKit
public import Idealize.ShloMosaic.Lib.WholeRead
public import Idealize.ShloMosaic.Lib.ValueLayout
public import Idealize.ShloMosaic.Lib.Pointwise

@[expose] public section

set_option maxRecDepth 16384

noncomputable section

namespace Cert.QkvIdeal.Hand

open Idealize.ShloMosaic Idealize.ShloMosaic.TcCoe Idealize.SL.Sem
open Idealize.ShloMosaic.Pipeline (Dat)
open Cert.QkvIdeal Cert.QkvIdeal.Gen
open Cert.FfnSpec (amax tsc tcode lnv)
open Cert.QkvSpec (ln1 s1 c1)

/-- A load of one row of a stack of planes. -/
theorem ldr3 {κ : Kind} {sp : Space} {e : EltTy} {A B C p q : ℕ} {off : Fin 3 → ℕ} (ho : off = ![p, q, 0]) (M : Memref sig κ sp ⟨3, ![A, B, C]⟩ e) (h : M.IsWhole)
    (X : (⟨3, ![A, B, C]⟩ : Shape).Idx → Elt Ideal e)
    (inb : ∀ a, off a + (![1, 1, C] : Fin 3 → ℕ) a ≤ (⟨3, ![A, B, C]⟩ : Shape).size a) (hp : p < A) (hq : q < B) (n : Fin C) :
    View.readAt (Elt Ideal) M.view (Rect.unit (s := ⟨3, ![A, B, C]⟩) off ![1, 1, C] inb).toLoadRect (h.unread X) (ix3 0 0 n)
      = X (ix3 ⟨p, hp⟩ ⟨q, hq⟩ n) := by
  subst ho
  rw [Memref.IsWhole.readAt_unread]
  refine congrArg X (funext fun a => ?_)
  refine Fin.cases ?_ (fun a => Fin.cases ?_ (fun a => Fin.cases ?_ (fun a => a.elim0) a) a) a
  · exact Fin.ext (show p + 1 * 0 = p by omega)
  · exact Fin.ext (show q + 1 * 0 = q by omega)
  · exact Fin.ext (show 0 + 1 * n.val = n.val by omega)

/-- A load of a whole block of one plane. -/
theorem ldw {κ : Kind} {sp : Space} {e : EltTy} {A B : ℕ} (M : Memref sig κ sp ⟨3, ![1, A, B]⟩ e) (h : M.IsWhole)
    (X : (⟨3, ![1, A, B]⟩ : Shape).Idx → Elt Ideal e)
    (inb : ∀ a, (![0, 0, 0] : Fin 3 → ℕ) a + (![1, A, B] : Fin 3 → ℕ) a ≤ (⟨3, ![1, A, B]⟩ : Shape).size a) (r : Fin A) (n : Fin B) :
    View.readAt (Elt Ideal) M.view (Rect.unit (s := ⟨3, ![1, A, B]⟩) ![0, 0, 0] ![1, A, B] inb).toLoadRect (h.unread X) (ix3 0 r n)
      = X (ix3 0 r n) := by
  rw [Memref.IsWhole.readAt_unread]
  refine congrArg X (funext fun a => ?_)
  refine Fin.cases ?_ (fun a => Fin.cases ?_ (fun a => Fin.cases ?_ (fun a => a.elim0) a) a) a
  · exact Fin.ext (show 0 + 1 * 0 = 0 by omega)
  · exact Fin.ext (show 0 + 1 * r.val = r.val by omega)
  · exact Fin.ext (show 0 + 1 * n.val = n.val by omega)

/-- A store of one row, read back in that row. -/
theorem canon_row {off : Fin 2 → ℕ} (inb : ∀ a, off a + S1x256.size a ≤ S48x256.size a) (w : S1x256.Idx → Elt Ideal .f32)
    (b : Fin 48) (ho : off = ![b.val, 0]) (r : Fin 256) :
    View.canon [(⟨Rect.unit (s := S48x256) off S1x256.size inb, w⟩ : View.Piece (Elt Ideal) S48x256 .f32)] (ix2 b r) = w (ix2 0 r) := by
  subst ho
  have h : (ix2 b r : S48x256.Idx) = (Rect.unit (s := S48x256) ![b.val, 0] S1x256.size inb).emb (ix2 0 r) := by
    refine funext fun a => ?_
    refine Fin.cases ?_ (fun a => Fin.cases ?_ (fun a => a.elim0) a) a
    · exact Fin.ext (show b.val = b.val + 1 * 0 by omega)
    · exact Fin.ext (show r.val = 0 + 1 * r.val by omega)
  rw [h]
  exact View.canon_cons_emb _ _ _ _

section
variable (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x128 .f32) (harg4 : arg4.IsWhole) (arg5 : Memref sig .tc .vmem S5760x128 .f32) (harg5 : arg5.IsWhole) (arg6 : Memref sig .tc .smem S30 .f32) (harg6 : arg6.IsWhole) (arg7 : Memref sig .tc .vmem S1x256x1920 .fp8e4m3) (harg7 : arg7.IsWhole) (arg8 : Memref sig .tc .vmem S48x256 .f32) (harg8 : arg8.IsWhole) (arg9 : Memref sig .tc .vmem S1x30x64x256 .bf16) (harg9 : arg9.IsWhole) (arg10 : Memref sig .tc .vmem S1x30x64x256 .i8) (harg10 : arg10.IsWhole) (arg11 : Memref sig .tc .vmem S1x30x32x256 .i8) (harg11 : arg11.IsWhole) (arg12 : Memref sig .tc .vmem S1x30x2x256 .f32) (harg12 : arg12.IsWhole)
    (x0 : Vec Ideal S1x256x1920 .bf16) (x1 : Vec Ideal S6x48x1920 .f32) (x2 : Vec Ideal S5760x1920 .fp8e4m3) (x3 : Vec Ideal S5760x128 .f32) (x4 : Vec Ideal S5760x128 .f32) (x5 : Vec Ideal S30 .f32)

/-- The row of the block that a run works on, after the layer norm. -/
def rowLn (r : Fin 256) : Fin 1920 → EReal :=
  lnv (fun n => x0 (ix3 0 r n)) (fun n => x1 (ix3 2 (i 0) n)) (fun n => x1 (ix3 4 (i 0) n))

/-- The codes that a run stores. -/
theorem codes_at (r : Fin 256) (n : Fin 1920) :
    View.canon (qkvRun (F := Ideal) c i arg1 harg1 arg2 harg2 arg3 harg3 arg4 harg4 arg5 harg5 arg6 harg6 arg7 harg7 arg8 harg8 arg9 harg9 arg10 harg10 arg11 harg11 arg12 harg12 x0 x1 x2 x3 x4 x5).1 (ix3 0 r n) = tcode (rowLn i x0 x1 r n) (tsc (amax (rowLn i x0 x1 r))) := by
  unfold qkvRun
  dsimp only
  canon_tiles y h
  idx_vars y
  obtain rfl : (0 : Fin 1) = y0 := Subsingleton.elim _ _
  obtain rfl : r = y1 := Fin.ext h1
  obtain rfl : n = y2 := Fin.ext h2
  refine (p9 _ _ _ r n).trans ?_
  unfold rowLn
  rw [funext fun n => ldw arg1 harg1 x0 _ r n, funext fun n => ldr3 (k0_off1_eq i) arg2 harg2 x1 _ (by decide) (i 0).isLt n,
    funext fun n => ldr3 (k0_off2_eq i) arg2 harg2 x1 _ (by decide) (i 0).isLt n]
  rfl

/-- The scales that a run stores. -/
theorem scales_at (b : Fin 48) (hb : (i 0).val = b.val) (r : Fin 256) :
    View.canon (qkvRun (F := Ideal) c i arg1 harg1 arg2 harg2 arg3 harg3 arg4 harg4 arg5 harg5 arg6 harg6 arg7 harg7 arg8 harg8 arg9 harg9 arg10 harg10 arg11 harg11 arg12 harg12 x0 x1 x2 x3 x4 x5).2.1 (ix2 b r) = tsc (amax (rowLn i x0 x1 r)) := by
  refine (canon_row _ _ b ((k0_off3_eq i).trans (by rw [hb])) r).trans ?_
  refine (p10 _ _ _ r).trans ?_
  unfold rowLn
  rw [funext fun n => ldw arg1 harg1 x0 _ r n, funext fun n => ldr3 (k0_off1_eq i) arg2 harg2 x1 _ (by decide) (i 0).isLt n,
    funext fun n => ldr3 (k0_off2_eq i) arg2 harg2 x1 _ (by decide) (i 0).isLt n]
  rfl
end

variable (m : (ℓ : Loc nD τ sig) → Buf (Elt Ideal) ℓ) (ρ : Dev nD → PrngReg)

theorem N_48 {t : Fin cfg0.N} : t.val < 48 := lt_of_lt_of_eq t.isLt N_0

theorem V0 (c : Dev nD) (k : Fin 6) (b : Fin 48) (n : Fin 1920) : V m c main_v0 (ix3 k b n) = m ((c : Thread nD τ).loc main_arg1) (ix3 b k n) := by
  have h : V m c main_v0 = transpose S6x48x1920 [1, 0, 2] (m ((c : Thread nD τ).loc main_arg1)) transposes_S48x6x1920_S6x48x1920_1_0_2 := by
    show StableHlo.after hostOps0 _ (Proc.devRef .tc main_v0) = _
    after_results
  rw [h]
  exact transpose_apply _ _ _ _ _ fun c => match c with | ⟨0, _⟩ => rfl | ⟨1, _⟩ => rfl | ⟨2, _⟩ => rfl

theorem at0 : ∀ t : Fin cfg0.N, win0_0.index t 0 = t.val ∧ win0_0.index t 1 = 0 ∧ win0_0.index t 2 = 0 := (by decide +kernel : ∀ t : Fin grid0.N, _)
/-- Batch `t` of the argument. -/
theorem blk0 (c : Dev nD) (t : Fin cfg0.N) (r : Fin 256) (n : Fin 1920) : iblk m c 0 t (ix3 0 r n) = m ((c : Thread nD τ).loc main_arg0) (ix3 ⟨t.val, N_48⟩ r n) := by
  have ha := at0 t
  blk_ext! [iblk, V_main_arg0] <;> omega
theorem at1 : ∀ t : Fin cfg0.N, win0_1.index t 0 = 0 ∧ win0_1.index t 1 = 0 ∧ win0_1.index t 2 = 0 := (by decide +kernel : ∀ t : Fin grid0.N, _)
theorem blk1 (c : Dev nD) (t : Fin cfg0.N) : iblk m c 1 t = V m c main_v0 := by
  have ha := at1 t
  blk_ext! [iblk] <;> omega

theorem coord_eq (t : Fin cfg0.N) : (grid0.coords t 0 : Fin 48) = ⟨t.val, N_48⟩ := Fin.ext (coord_val t)

/-- The rows that a grid point computes are its batch's. -/
theorem row_at (c : Dev nD) (t : Fin cfg0.N) (r : Fin 256) :
    rowLn (grid0.coords t) (iblk m c 0 t) (iblk m c 1 t) r = ln1 (m ((c : Thread nD τ).loc main_arg0)) (m ((c : Thread nD τ).loc main_arg1)) ⟨t.val, N_48⟩ r := by
  unfold rowLn
  exact congr (congr (congrArg lnv (funext fun n => blk0 m c t r n))
    (funext fun n => (congrFun (blk1 m c t) _).trans ((V0 m c 2 (grid0.coords t 0) n).trans
      (congrArg (fun b : Fin 48 => m ((c : Thread nD τ).loc main_arg1) (ix3 b 2 n)) (coord_eq t)))))
    (funext fun n => (congrFun (blk1 m c t) _).trans ((V0 m c 4 (grid0.coords t 0) n).trans
      (congrArg (fun b : Fin 48 => m ((c : Thread nD τ).loc main_arg1) (ix3 b 4 n)) (coord_eq t))))

theorem out6_at (c : Dev nD) (t : Fin cfg0.N) (r : Fin 256) (n : Fin 1920) :
    out6 m c t (ix3 0 r n) = c1 (m ((c : Thread nD τ).loc main_arg0)) (m ((c : Thread nD τ).loc main_arg1)) ⟨t.val, N_48⟩ r n := by
  rw [out6, View.read_writes_junk_eq_canon]
  unfold ptRun
  rw [codes_at, row_at]
  rfl
theorem out7_at (c : Dev nD) (t : Fin cfg0.N) (r : Fin 256) :
    out7 m c t (ix2 ⟨t.val, N_48⟩ r) = s1 (m ((c : Thread nD τ).loc main_arg0)) (m ((c : Thread nD τ).loc main_arg1)) ⟨t.val, N_48⟩ r := by
  rw [out7, View.read_writes_junk_eq_canon]
  unfold ptRun
  rw [scales_at _ _ _ _ _ _ _ _ _ _ _ _ _ _ _ _ _ _ _ _ _ _ _ _ _ _ _ _ _ _ _ _ ⟨t.val, N_48⟩ (coord_val t) r, row_at]
  rfl

theorem at6 : ∀ t : Fin cfg0.N, win0_6.index t 0 = t.val ∧ win0_6.index t 1 = 0 ∧ win0_6.index t 2 = 0 := (by decide +kernel : ∀ t : Fin grid0.N, _)

/-- The grid point of a batch. -/
def pt0 (b : Fin 48) : Fin cfg0.N := ⟨b.val, lt_of_lt_of_eq b.isLt N_0.symm⟩
/-- The last grid point. -/
def tLast : Fin cfg0.N := pt0 47

/-- What each write-back's buffer may hold: the codes' blocks, and every row of the scales. -/
def Good (c : Dev nD) (after : (w : Fin cfg0.W) → Fin cfg0.N → (cfg0.win w).block.Idx → Elt Ideal (cfg0.win w).elt) : Prop :=
  ∀ (w : Fin cfg0.W) (u : Fin cfg0.N), (cfg0.win w).flush u = true → (rdat m c).Leaves w u (after w u)

attribute [local irreducible] Cert.QkvSpec.c1 Cert.QkvSpec.s1

section
variable {m} {c : Dev nD} {after : (w : Fin cfg0.W) → Fin cfg0.N → (cfg0.win w).block.Idx → Elt Ideal (cfg0.win w).elt} (h : Good m c after)
include h

theorem fin6 : ((rdat m c).withAfter after).arrAt 6 cfg0.N = (fun i => c1 (m ((c : Thread nD τ).loc main_arg0)) (m ((c : Thread nD τ).loc main_arg1)) (i 0) (i 1) (i 2)) := by
  refine ((rdat m c).withAfter after).arrAt_eq_of_covers 6 _ (by decide +kernel) fun t hf x => ?_
  have hX : after 6 t = out6 m c t := (Dat.toRRel_leaves_exact (by rfl) (by rfl) hf (h 6 t hf)).trans (after0_6 m c t)
  have ha := at6 t
  show after 6 t _ = _
  rw [hX]
  blk_simp
  idx_vars x
  obtain rfl : (0 : Fin 1) = x0 := Subsingleton.elim _ _
  refine (out6_at m c t x1 x2).trans ?_
  refine congrArg (fun e : (⟨3, ![48, 256, 1920]⟩ : Shape).Idx => c1 (m ((c : Thread nD τ).loc main_arg0)) (m ((c : Thread nD τ).loc main_arg1)) (e 0) (e 1) (e 2)) (?_ : ix3 ⟨t.val, N_48⟩ x1 x2 = (win0_6.rect t).emb (ix3 0 x1 x2))
  refine funext fun a => ?_
  refine Fin.cases ?_ (fun a => Fin.cases ?_ (fun a => Fin.cases ?_ (fun a => a.elim0) a) a) a
  · refine Fin.ext (((win0_6.rect_emb_val t (ix3 0 x1 x2) 0).trans ?_).symm)
    rw [ha.1]
    show t.val * 1 + 0 = t.val
    omega
  · exact Fin.ext (win0_6.rect_emb_val_of_index_zero t 1 ha.2.1 (ix3 0 x1 x2)).symm
  · exact Fin.ext (win0_6.rect_emb_val_of_index_zero t 2 ha.2.2 (ix3 0 x1 x2)).symm

theorem fin7 : ((rdat m c).withAfter after).arrAt 7 cfg0.N = (fun i => s1 (m ((c : Thread nD τ).loc main_arg0)) (m ((c : Thread nD τ).loc main_arg1)) (i 0) (i 1)) := by
  refine ((rdat m c).withAfter after).arrAt_eq_of_after_last 7 tLast (by decide +kernel) _ fun j => ?_
  have hR : Rel m c 7 tLast (after 7 tLast) := (dats m 0 c).toRRel_leaves (by rfl) (h 7 tLast ((flush0_7 _).mpr rfl))
  blk_simp
  idx_vars j
  have e := hR (pt0 j0) (ix2 j0 j1) (by show j0.val ≤ 47; omega) rfl
  have ho := out7_at m c (pt0 j0) j1
  exact e.trans ho

end

/-- The run: the results' arrays are the rows' codes and scales. -/
theorem results : θ_run defs (onTc (τ := τ) (main (F := Ideal))) ⟨m, fun _ => 0, ρ⟩ (fun r => ∀ c : Dev nD,
      r.2.mem ((c.tc : Thread nD τ).loc main_v11_0) = (fun i => c1 (m ((c : Thread nD τ).loc main_arg0)) (m ((c : Thread nD τ).loc main_arg1)) (i 0) (i 1) (i 2))
      ∧ r.2.mem ((c.tc : Thread nD τ).loc main_v11_1) = (fun i => s1 (m ((c : Thread nD τ).loc main_arg0)) (m ((c : Thread nD τ).loc main_arg1)) (i 0) (i 1))) :=
  (θ_run defs _ _).mono (fun r h c => by
    obtain ⟨after, hL, hA⟩ := Pipeline.RDat.FramePost.exists_exact h.1 c
    exact ⟨(hA 6).trans (fin6 hL), (hA 7).trans (fin7 hL)⟩) (run_main m ρ)

end Cert.QkvIdeal.Hand

end
-- ==== Proof.QkvRefVal.lean ====
/- The arrays of codes and scales that the layer norm's reference leaves, as the rows' values. -/
module

public import proofs.«01_k».proof.Proof.QkvSpec
public import proofs.«01_k».proof.Proof.Gen.QkvRefIdeal.Skeleton
public import proofs.«01_k».proof.Proof.Gen.QkvRefIdeal.Frame
public import Idealize.ShloMosaic.Lib.Pipeline.ValueKit

@[expose] public section

set_option maxRecDepth 16384

noncomputable section

namespace Cert.QkvRefIdeal.Hand

open Idealize.ShloMosaic Idealize.ShloMosaic.TcCoe Idealize.SL.Sem
open Idealize.ShloMosaic.Pipeline (Dat)
open Cert.QkvRefIdeal Cert.QkvRefIdeal.Gen
open Cert.FfnSpec (cBot amax tsc tcode lnv)
open Cert.QkvSpec (ln1 s1 c1)

/-- One of the six vectors of a batch. -/
theorem ldAda (x1 : Vec Ideal S48x6x1920 .f32) (k : Fin 6) (inb : ∀ a, (![0, k.val, 0] : Fin 3 → ℕ) a + S48x1x1920.size a ≤ S48x6x1920.size a) (b : Fin 48) (n : Fin 1920) :
    View.ld x1 (Rect.unit (s := S48x6x1920) ![0, k.val, 0] S48x1x1920.size inb) (ix3 b 0 n) = x1 (ix3 b k n) := by
  refine congrArg x1 (funext fun a => ?_)
  refine Fin.cases ?_ (fun a => Fin.cases ?_ (fun a => Fin.cases ?_ (fun a => a.elim0) a) a) a
  · exact Fin.ext (by show 0 + 1 * b.val = b.val; omega)
  · exact Fin.ext (by show k.val + 1 * 0 = k.val; omega)
  · exact Fin.ext (by show 0 + 1 * n.val = n.val; omega)

/-- The largest magnitude along a row. -/
theorem red_1 (u : FVec Ideal S48x256x1920 .f32) (b : Fin 48) (r : Fin 256) :
    multiReduction .maximumf [2] S48x256 (absf u) 0xFF800000#32 reduces_S48x256x1920_S48x256 (.inl rfl) rfl (ix2 b r) = amax (fun k => u (ix3 b r k)) := by
  have h (u : FVec Ideal S48x256x1920 .f32) :
      multiReduction .maximumf [2] S48x256 u 0xFF800000#32 reduces_S48x256x1920_S48x256 (.inl rfl) rfl (ix2 b r) = Finset.fold max Cert.FfnSpec.cBot (fun k => u (ix3 b r k)) Finset.univ := by
    pointwise
  exact h (absf u)

/-- A clipped quotient. -/
theorem cod_1 (x : FVec Ideal S48x256x1920 .f32) (s : FVec Ideal S48x256x1 .f32) (b : Fin 48) (r : Fin 256) (n : Fin 1920) :
    truncf .fp8e4m3 (minimumf (broadcast S48x256x1920 (Scalar.ofBits (F := Ideal) .f32 0x43E00000#32)) (maximumf (broadcast S48x256x1920 (Scalar.ofBits (F := Ideal) .f32 0xC3E00000#32)) (divf x (broadcastTo S48x256x1920 s broadcasts_S48x256x1_S48x256x1920)))) bitsLt_fp8e4m3_f32 (ix3 b r n) = tcode (x (ix3 b r n)) (s (ix3 b r 0)) := by
  pointwise
  rfl

/-- A row's scale. -/
theorem scal (u : FVec Ideal S48x256 .f32) (b : Fin 48) (r : Fin 256) :
    (let v51 : FVec Ideal S48x256x1 .f32 := shapeCast S48x256x1 u shapeCasts_S48x256_S48x256x1
     select (cmpf .oeq v51 (broadcast S48x256x1 (Scalar.ofBits (F := Ideal) .f32 0x00000000#32))) (broadcast S48x256x1 (Scalar.ofBits (F := Ideal) .f32 0x3F800000#32)) (divf v51 (broadcast S48x256x1 (Scalar.ofBits (F := Ideal) .f32 0x43E00000#32)))) (ix3 b r 0) = tsc (u (ix2 b r)) := by
  pointwise
  rfl

theorem q3 (v0 v1 : FVec Ideal S48x1x1920 .f32) (v2 : FVec Ideal S48x256x1920 .bf16) (b : Fin 48) (r : Fin 256) (n : Fin 1920) :
    k0_pay3 (F := Ideal) v0 v1 v2 (ix3 b r n) = lnv (fun n => v2 (ix3 b r n)) (fun n => v0 (ix3 b 0 n)) (fun n => v1 (ix3 b 0 n)) n := by
  pointwise [k0_pay3]
  rfl

theorem q4 (v0 v1 : FVec Ideal S48x1x1920 .f32) (v2 : FVec Ideal S48x256x1920 .bf16) (b : Fin 48) (r : Fin 256) :
    k0_pay4 (F := Ideal) v0 v1 v2 (ix3 b r 0) = tsc (amax (lnv (fun n => v2 (ix3 b r n)) (fun n => v0 (ix3 b 0 n)) (fun n => v1 (ix3 b 0 n)))) :=
  (scal _ b r).trans ((congrArg tsc (red_1 _ b r)).trans (congrArg (fun f => tsc (amax f)) (funext fun n => q3 v0 v1 v2 b r n)))

theorem a1 (v0 v1 : FVec Ideal S48x1x1920 .f32) (v2 : FVec Ideal S48x256x1920 .bf16) (b : Fin 48) (r : Fin 256) (n : Fin 1920) :
    k0_pay1 (F := Ideal) (Scalar.ofBits .f32 0x43E00000#32) (k0_pay5 (F := Ideal) v0 v1 v2) (ix3 b r n)
      = tcode (k0_pay3 (F := Ideal) v0 v1 v2 (ix3 b r n)) (k0_pay4 (F := Ideal) v0 v1 v2 (ix3 b r 0)) :=
  cod_1 _ _ b r n

theorem q1 (v0 v1 : FVec Ideal S48x1x1920 .f32) (v2 : FVec Ideal S48x256x1920 .bf16) (b : Fin 48) (r : Fin 256) (n : Fin 1920) :
    k0_pay1 (F := Ideal) (Scalar.ofBits .f32 0x43E00000#32) (k0_pay5 (F := Ideal) v0 v1 v2) (ix3 b r n) = tcode (lnv (fun n => v2 (ix3 b r n)) (fun n => v0 (ix3 b 0 n)) (fun n => v1 (ix3 b 0 n)) n) (tsc (amax (lnv (fun n => v2 (ix3 b r n)) (fun n => v0 (ix3 b 0 n)) (fun n => v1 (ix3 b 0 n))))) :=
  (a1 v0 v1 v2 b r n).trans (congrArg₂ tcode (q3 v0 v1 v2 b r n) (q4 v0 v1 v2 b r))

theorem q2 (v34 : FVec Ideal S48x256x1 .f32) (b : Fin 48) (r : Fin 256) :
    k0_pay2 (F := Ideal) v34 (ix2 b r) = v34 (ix3 b r 0) := by
  pointwise [k0_pay2]

theorem ld_ln (x0 : Vec Ideal S48x256x1920 .bf16) (x1 : Vec Ideal S48x6x1920 .f32) (b : Fin 48) (r : Fin 256) :
    lnv (fun n => x0 (ix3 b r n)) (fun n => View.ld x1 r0_0 (ix3 b 0 n)) (fun n => View.ld x1 r0_1 (ix3 b 0 n)) = ln1 x0 x1 b r := by
  rw [show (fun n => View.ld x1 r0_0 (ix3 b 0 n)) = (fun n => x1 (ix3 b 2 n)) from funext fun n => ldAda x1 2 _ b n,
    show (fun n => View.ld x1 r0_1 (ix3 b 0 n)) = (fun n => x1 (ix3 b 4 n)) from funext fun n => ldAda x1 4 _ b n]
  rfl

theorem o2 (x0 : Vec Ideal S48x256x1920 .bf16) (x1 : Vec Ideal S48x6x1920 .f32) (b : Fin 48) (r : Fin 256) (n : Fin 1920) : out0_2 (F := Ideal) x0 x1 (ix3 b r n) = c1 x0 x1 b r n := by
  unfold out0_2
  frame_out
  refine (q1 _ _ _ b r n).trans ?_
  rw [ld_ln]
  rfl

theorem o3 (x0 : Vec Ideal S48x256x1920 .bf16) (x1 : Vec Ideal S48x6x1920 .f32) (b : Fin 48) (r : Fin 256) : out0_3 (F := Ideal) x0 x1 (ix2 b r) = s1 x0 x1 b r := by
  unfold out0_3
  frame_out
  refine ((q2 _ b r).trans (q4 _ _ _ b r)).trans ?_
  rw [ld_ln]
  rfl

variable (m : (ℓ : Loc nD τ sig) → Buf (Elt Ideal) ℓ)

theorem blkA0 (c : Dev nD) : iblk m c 0 t0_0 = m ((c : Thread nD τ).loc main_arg0) := by
  have ha : win0_0.index t0_0 0 = 0 ∧ win0_0.index t0_0 1 = 0 ∧ win0_0.index t0_0 2 = 0 := by decide +kernel
  blk_ext! [iblk, V] <;> omega
theorem blkA1 (c : Dev nD) : iblk m c 1 t0_0 = m ((c : Thread nD τ).loc main_arg1) := by
  have ha : win0_1.index t0_0 0 = 0 ∧ win0_1.index t0_0 1 = 0 ∧ win0_1.index t0_0 2 = 0 := by decide +kernel
  blk_ext! [iblk, V] <;> omega

attribute [local irreducible] Cert.QkvSpec.c1 Cert.QkvSpec.s1

theorem arr2 (c : Dev nD) : (dats m 0 c).arrAt 2 (cfgs 0).N = (fun i => c1 (m ((c : Thread nD τ).loc main_arg0)) (m ((c : Thread nD τ).loc main_arg1)) (i 0) (i 1) (i 2)) := by
  refine (dats m 0 c).arrAt_eq_of_after_last 2 t0_0 (by decide +kernel) _ fun j => ?_
  blk_simp
  rw [after0_2, blkA0, blkA1]
  idx_vars j
  exact o2 (m ((c : Thread nD τ).loc main_arg0)) (m ((c : Thread nD τ).loc main_arg1)) j0 j1 j2

theorem arr3 (c : Dev nD) : (dats m 0 c).arrAt 3 (cfgs 0).N = (fun i => s1 (m ((c : Thread nD τ).loc main_arg0)) (m ((c : Thread nD τ).loc main_arg1)) (i 0) (i 1)) := by
  refine (dats m 0 c).arrAt_eq_of_after_last 3 t0_0 (by decide +kernel) _ fun j => ?_
  blk_simp
  rw [after0_3, blkA0, blkA1]
  idx_vars j
  exact o3 (m ((c : Thread nD τ).loc main_arg0)) (m ((c : Thread nD τ).loc main_arg1)) j0 j1

end Cert.QkvRefIdeal.Hand

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.FfnBitsBody
public import proofs.«01_k».proof.Proof.FfnVal
public import proofs.«01_k».proof.Proof.FfnRefVal
public import proofs.«01_k».proof.Proof.QkvBitsBody
public import proofs.«01_k».proof.Proof.QkvVal
public import proofs.«01_k».proof.Proof.QkvRefVal
public import Idealize.ShloMosaic.Lib.Quiescent
import Idealize.ShloMosaic.Adequacy
public import Idealize.ShloMosaic.Init

@[expose] public section

noncomputable section

namespace Cert.Proof

open Idealize.ShloMosaic Idealize.SL.Sem Cert.Ffn

/-- The reference's run: the results' arrays are the rows' values. -/
theorem refResults (m : (ℓ : Loc Cert.FfnRefIdeal.nD Cert.FfnRefIdeal.τ Cert.FfnRefIdeal.sig) → Buf (Elt Ideal) ℓ) (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r => ∀ c : Dev Cert.FfnRefIdeal.nD,
      r.2.mem ((c.tc : Thread Cert.FfnRefIdeal.nD Cert.FfnRefIdeal.τ).loc Cert.FfnRefIdeal.main_v0_0) = (fun i => Cert.FfnSpec.y (Cert.FfnRefIdeal.Hand.aRow m c (i 0) (i 1)) (Cert.FfnRefIdeal.Hand.aWts m c) (i 2))
      ∧ r.2.mem ((c.tc : Thread Cert.FfnRefIdeal.nD Cert.FfnRefIdeal.τ).loc Cert.FfnRefIdeal.main_v0_1) = (fun i => Cert.FfnSpec.c2 (Cert.FfnRefIdeal.Hand.aRow m c (i 0) (i 1)) (Cert.FfnRefIdeal.Hand.aWts m c) (i 2))
      ∧ r.2.mem ((c.tc : Thread Cert.FfnRefIdeal.nD Cert.FfnRefIdeal.τ).loc Cert.FfnRefIdeal.main_v0_2) = (fun i => Cert.FfnSpec.s2 (Cert.FfnRefIdeal.Hand.aRow m c (i 0) (i 1)) (Cert.FfnRefIdeal.Hand.aWts m c))
      ∧ r.2.mem ((c.tc : Thread Cert.FfnRefIdeal.nD Cert.FfnRefIdeal.τ).loc Cert.FfnRefIdeal.main_v0_3) = (fun i => Cert.FfnSpec.hc (Cert.FfnRefIdeal.Hand.aRow m c (i 0) (i 1)) (Cert.FfnRefIdeal.Hand.aWts m c) (i 2))
      ∧ r.2.mem ((c.tc : Thread Cert.FfnRefIdeal.nD Cert.FfnRefIdeal.τ).loc Cert.FfnRefIdeal.main_v0_4) = (fun i => Cert.FfnSpec.hs (Cert.FfnRefIdeal.Hand.aRow m c (i 0) (i 1)) (Cert.FfnRefIdeal.Hand.aWts m c))) :=
  (θ_run _ _ _).mono (fun r h c => ⟨((h.out_eq c 13).trans (Cert.FfnRefIdeal.Hand.arr13 m c)), ((h.out_eq c 14).trans (Cert.FfnRefIdeal.Hand.arr14 m c)), ((h.out_eq c 15).trans (Cert.FfnRefIdeal.Hand.arr15 m c)), ((h.out_eq c 16).trans (Cert.FfnRefIdeal.Hand.arr16 m c)), ((h.out_eq c 17).trans (Cert.FfnRefIdeal.Hand.arr17 m c))⟩) (Cert.FfnRefIdeal.Gen.run_main m ρ)

theorem preserves : Cert.preserves_Ffn_FfnIdeal :=
  ⟨IdealRules.named_const.statement Cert.FfnIdeal.κ "gelu_c3" .f32 0x3D122279#32 (((Real.sqrt (2 * Real.pi⁻¹)) * (8943 / 200000) : ℝ) : EReal) rfl,
    IdealRules.named_const.statement Cert.FfnIdeal.κ "gelu_c" .f32 0x3F4C422A#32 ((Real.sqrt (2 * Real.pi⁻¹) : ℝ) : EReal) rfl⟩

/-- The kernel and the reference leave the same five arrays: both leave the rows' values. -/
theorem algebraic : Cert.algebraic_FfnIdeal_FfnRefIdeal (hFfnIdeal := Cert.FfnIdeal.Gen.facts) (hFfnRefIdeal := Cert.FfnRefIdeal.Gen.facts) := by
  intro m g m' g' _ hm
  have hR (c : Dev Cert.FfnIdeal.nD) : Cert.FfnRefIdeal.Hand.aRow m' c = Cert.FfnIdeal.Hand.aRow m c := by
    obtain ⟨h0, h1, h2, h3, h4, h5, h6, h7, h8, h9, h10, h11, h12⟩ := hm c
    funext b r
    unfold Cert.FfnRefIdeal.Hand.aRow Cert.FfnIdeal.Hand.aRow
    rw [h0, h1, h2, h3]
  have hW (c : Dev Cert.FfnIdeal.nD) : Cert.FfnRefIdeal.Hand.aWts m' c = Cert.FfnIdeal.Hand.aWts m c := by
    obtain ⟨h0, h1, h2, h3, h4, h5, h6, h7, h8, h9, h10, h11, h12⟩ := hm c
    unfold Cert.FfnRefIdeal.Hand.aWts Cert.FfnIdeal.Hand.aWts
    rw [h4, h5, h6, h7, h8, h9, h10, h11, h12]
  refine ⟨fun c i => Cert.FfnSpec.y (Cert.FfnIdeal.Hand.aRow m c (i 0) (i 1)) (Cert.FfnIdeal.Hand.aWts m c) (i 2), fun c i => Cert.FfnSpec.c2 (Cert.FfnIdeal.Hand.aRow m c (i 0) (i 1)) (Cert.FfnIdeal.Hand.aWts m c) (i 2), fun c i => Cert.FfnSpec.s2 (Cert.FfnIdeal.Hand.aRow m c (i 0) (i 1)) (Cert.FfnIdeal.Hand.aWts m c), fun c i => Cert.FfnSpec.hc (Cert.FfnIdeal.Hand.aRow m c (i 0) (i 1)) (Cert.FfnIdeal.Hand.aWts m c) (i 2), fun c i => Cert.FfnSpec.hs (Cert.FfnIdeal.Hand.aRow m c (i 0) (i 1)) (Cert.FfnIdeal.Hand.aWts m c), ?_, ?_⟩
  · refine (θ_run _ _ _).mono (fun r h c => ?_) (θ_run_and (Cert.FfnIdeal.Hand.results m g) (Cert.FfnIdeal.Hand.unchanged m g))
    obtain ⟨r0, r1, r2, r3, r4⟩ := h.1 c
    exact ⟨r0, r1, r2, r3, r4, h.2 c⟩
  · refine (θ_run _ _ _).mono (fun r h c => ?_) (θ_run_and (refResults m' g') (Cert.FfnRefIdeal.Gen.unchanged m' g'))
    obtain ⟨r0, r1, r2, r3, r4⟩ := h.1 c
    rw [hR c, hW c] at r0 r1 r2 r3 r4
    exact ⟨r0, r1, r2, r3, r4, h.2 c⟩

/-- The second call's reference: the arrays are the rows' codes and scales. -/
theorem qkvRefResults (m : (ℓ : Loc Cert.QkvRefIdeal.nD Cert.QkvRefIdeal.τ Cert.QkvRefIdeal.sig) → Buf (Elt Ideal) ℓ) (ρ : Dev Cert.QkvRefIdeal.nD → PrngReg) :
    θ_run (Cert.QkvRefIdeal.defs (F := Ideal)) (onTc (τ := Cert.QkvRefIdeal.τ) (Cert.QkvRefIdeal.main (F := Ideal))) ⟨m, fun _ => 0, ρ⟩ (fun r => ∀ c : Dev Cert.QkvRefIdeal.nD,
      r.2.mem ((c.tc : Thread Cert.QkvRefIdeal.nD Cert.QkvRefIdeal.τ).loc Cert.QkvRefIdeal.main_v0_0) = (fun i => Cert.QkvSpec.c1 (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (i 0) (i 1) (i 2))
      ∧ r.2.mem ((c.tc : Thread Cert.QkvRefIdeal.nD Cert.QkvRefIdeal.τ).loc Cert.QkvRefIdeal.main_v0_1) = (fun i => Cert.QkvSpec.s1 (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (i 0) (i 1))) :=
  (θ_run _ _ _).mono (fun r h c => ⟨((h.out_eq c 2).trans (Cert.QkvRefIdeal.Hand.arr2 m c)), ((h.out_eq c 3).trans (Cert.QkvRefIdeal.Hand.arr3 m c))⟩) (Cert.QkvRefIdeal.Gen.run_main m ρ)

theorem qkvPreserves : Cert.preserves_Qkv_QkvIdeal := trivial

/-- The second call and its reference leave the same codes and scales. -/
theorem qkvAlgebraic : Cert.algebraic_QkvIdeal_QkvRefIdeal (hQkvIdeal := Cert.QkvIdeal.Gen.facts) (hQkvRefIdeal := Cert.QkvRefIdeal.Gen.facts) := by
  intro m g m' g' _ hm
  refine ⟨fun c i => Cert.QkvSpec.c1 (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (i 0) (i 1) (i 2), fun c i => Cert.QkvSpec.s1 (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (i 0) (i 1), ?_, ?_⟩
  · refine (θ_run _ _ _).mono (fun r h c => ?_) (θ_run_and (Cert.QkvIdeal.Hand.results m g) (Cert.QkvIdeal.Hand.unchanged m g))
    obtain ⟨r0, r1⟩ := h.1 c
    exact ⟨r0, r1, h.2 c⟩
  · refine (θ_run _ _ _).mono (fun r h c => ?_) (θ_run_and (qkvRefResults m' g') (Cert.QkvRefIdeal.Gen.unchanged m' g'))
    obtain ⟨r0, r1⟩ := h.1 c
    obtain ⟨h0, h1, -⟩ := hm c
    rw [h0, h1] at r0 r1
    exact ⟨r0, r1, h.2 c⟩

theorem claim : Cert.Claim := ⟨Cert.Ffn.Gen.facts, Cert.FfnIdeal.Gen.facts, Cert.FfnRefIdeal.Gen.facts,
  Cert.Qkv.Gen.facts, Cert.QkvIdeal.Gen.facts, Cert.QkvRefIdeal.Gen.facts,
  fun m ρ _ => Cert.Ffn.Hand.frame m ρ, fun m ρ _ => Cert.FfnIdeal.Hand.frame m ρ, fun m ρ _ => Cert.FfnRefIdeal.Gen.frame m ρ,
  fun m ρ _ => Cert.Qkv.Hand.frame m ρ, fun m ρ _ => Cert.QkvIdeal.Hand.frame m ρ, fun m ρ _ => Cert.QkvRefIdeal.Gen.frame m ρ,
  preserves, algebraic, qkvPreserves, qkvAlgebraic⟩

end Cert.Proof

end
